-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S32768x1024 : Shape := ⟨2, ![32768, 1024]⟩
abbrev S3x4128x1024 : Shape := ⟨3, ![3, 4128, 1024]⟩
abbrev S_ : Shape := ⟨0, ![]⟩
abbrev S3x3 : Shape := ⟨2, ![3, 3]⟩
abbrev S3x7 : Shape := ⟨2, ![3, 7]⟩
abbrev S1x1 : Shape := ⟨2, ![1, 1]⟩
abbrev S1x1376x1024 : Shape := ⟨3, ![1, 1376, 1024]⟩
abbrev S1376x1024 : Shape := ⟨2, ![1376, 1024]⟩
abbrev S1x1360x1024 : Shape := ⟨3, ![1, 1360, 1024]⟩
abbrev S1360x1024 : Shape := ⟨2, ![1360, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S32768x1024, .bf16⟩
  | .local _ .vmem, ⟨0, _⟩ => ⟨S4096x1024, .bf16⟩
  | .local _ .vmem, ⟨1, _⟩ => ⟨S4096x1024, .bf16⟩
  | .local _ .vmem, ⟨2, _⟩ => ⟨S3x4128x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4096_i32 : BitVec 32 := 4096#32
  let v18 : BitVec 32 := Scalar.muli v2 c4096_i32
  let c0_i32_13 : BitVec 32 := 0#32
  ![v18.toNat, 0]
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v20 : BitVec 32 := Scalar.xori v2 c1_i32_14
  let c1_i32_20 : BitVec 32 := 1#32
  let v21 : BitVec 32 := Scalar.muli v20 c1_i32_20
  let v22 : BitVec 32 := Scalar.addi c0_i32_21 v21
  v22.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_26 : BitVec 32 := 3#32
  let v30 : BitVec 32 := Scalar.xori v2 c3_i32_26
  let c1_i32_32 : BitVec 32 := 1#32
  let v31 : BitVec 32 := Scalar.muli v30 c1_i32_32
  let v32 : BitVec 32 := Scalar.addi c0_i32_33 v31
  v32.toNat
def k0_dev6 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v40 : BitVec 32 := Scalar.xori v2 c4_i32_37
  let c1_i32_42 : BitVec 32 := 1#32
  let v41 : BitVec 32 := Scalar.muli v40 c1_i32_42
  let v42 : BitVec 32 := Scalar.addi c0_i32_43 v41
  v42.toNat
def k0_off2 (d0 : Dev nD) (c1_i32_47 : BitVec 32) (c0_i32_60 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v50 : BitVec 32 := Scalar.xori v2 c1_i32_47
  let v59 : BitVec 32 := Scalar.xori v50 c0_i32_60
  let c4096_i32_61 : BitVec 32 := 4096#32
  let v60 : BitVec 32 := Scalar.muli v59 c4096_i32_61
  let c0_i32_62 : BitVec 32 := 0#32
  let v61 : BitVec 32 := Scalar.addi v60 c0_i32_62
  let c0_i32_66 : BitVec 32 := 0#32
  ![v61.toNat, 0]
def k0_off2_at (r : Fin 7) : BitVec 32 × BitVec 32 :=
  if r.val < 3 then
    if r.val < 1 then
      (1#32, 0#32)
    else
      if r.val < 2 then
        (3#32, 0#32)
      else
        (3#32, 1#32)
  else
    if r.val < 5 then
      if r.val < 4 then
        (4#32, 0#32)
      else
        (4#32, 1#32)
    else
      if r.val < 6 then
        (4#32, 3#32)
      else
        (4#32, 2#32)
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_69 : BitVec 32 := 3#32
  let v67 : BitVec 32 := Scalar.xori v2 c3_i32_69
  let c1_i32_75 : BitVec 32 := 1#32
  let v68 : BitVec 32 := Scalar.muli v67 c1_i32_75
  let v69 : BitVec 32 := Scalar.addi c0_i32_76 v68
  v69.toNat
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_69 : BitVec 32 := 3#32
  let v67 : BitVec 32 := Scalar.xori v2 c3_i32_69
  let c1_i32_87 : BitVec 32 := 1#32
  let v77 : BitVec 32 := Scalar.muli v67 c1_i32_87
  let v78 : BitVec 32 := Scalar.addi c0_i32_88 v77
  v78.toNat
def k0_off3 (d0 : Dev nD) (c3_i32_92 : BitVec 32) (c0_i32_105 : BitVec 32) (c1376_i32_107 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v87 : BitVec 32 := Scalar.xori v2 c3_i32_92
  let v96 : BitVec 32 := Scalar.xori v87 c0_i32_105
  let c4096_i32_106 : BitVec 32 := 4096#32
  let v97 : BitVec 32 := Scalar.muli v96 c4096_i32_106
  let v98 : BitVec 32 := Scalar.addi v97 c1376_i32_107
  let c0_i32_111 : BitVec 32 := 0#32
  ![v98.toNat, 0]
def k0_off3_at (r : Fin 14) : BitVec 32 × BitVec 32 × BitVec 32 :=
  if r.val < 7 then
    if r.val < 3 then
      if r.val < 1 then
        (3#32, 0#32, 1376#32)
      else
        if r.val < 2 then
          (4#32, 0#32, 2736#32)
        else
          (4#32, 0#32, 1376#32)
    else
      if r.val < 5 then
        if r.val < 4 then
          (4#32, 3#32, 1376#32)
        else
          (1#32, 0#32, 2736#32)
      else
        if r.val < 6 then
          (1#32, 4#32, 2736#32)
        else
          (1#32, 0#32, 1376#32)
  else
    if r.val < 10 then
      if r.val < 8 then
        (1#32, 3#32, 1376#32)
      else
        if r.val < 9 then
          (1#32, 4#32, 1376#32)
        else
          (1#32, 7#32, 1376#32)
    else
      if r.val < 12 then
        if r.val < 11 then
          (3#32, 0#32, 2736#32)
        else
          (3#32, 4#32, 2736#32)
      else
        if r.val < 13 then
          (3#32, 1#32, 2736#32)
        else
          (3#32, 5#32, 2736#32)
def k0_dev9 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_114 : BitVec 32 := 4#32
  let v104 : BitVec 32 := Scalar.xori v2 c4_i32_114
  let c1_i32_120 : BitVec 32 := 1#32
  let v105 : BitVec 32 := Scalar.muli v104 c1_i32_120
  let v106 : BitVec 32 := Scalar.addi c0_i32_121 v105
  v106.toNat
def k0_dev10 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_114 : BitVec 32 := 4#32
  let v104 : BitVec 32 := Scalar.xori v2 c4_i32_114
  let c1_i32_132 : BitVec 32 := 1#32
  let v114 : BitVec 32 := Scalar.muli v104 c1_i32_132
  let v115 : BitVec 32 := Scalar.addi c0_i32_133 v114
  v115.toNat
def k0_dev11 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_160 : BitVec 32 := 1#32
  let v141 : BitVec 32 := Scalar.xori v2 c1_i32_160
  let c1_i32_166 : BitVec 32 := 1#32
  let v142 : BitVec 32 := Scalar.muli v141 c1_i32_166
  let v143 : BitVec 32 := Scalar.addi c0_i32_167 v142
  v143.toNat
def k0_dev12 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_160 : BitVec 32 := 1#32
  let v141 : BitVec 32 := Scalar.xori v2 c1_i32_160
  let c1_i32_178 : BitVec 32 := 1#32
  let v151 : BitVec 32 := Scalar.muli v141 c1_i32_178
  let v152 : BitVec 32 := Scalar.addi c0_i32_179 v151
  v152.toNat
def k0_off4 (d0 : Dev nD) (c0_i32_228 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v195 : BitVec 32 := Scalar.xori v2 c0_i32_228
  let c4096_i32_229 : BitVec 32 := 4096#32
  let v196 : BitVec 32 := Scalar.muli v195 c4096_i32_229
  let c0_i32_230 : BitVec 32 := 0#32
  let v197 : BitVec 32 := Scalar.addi v196 c0_i32_230
  let c0_i32_237 : BitVec 32 := 0#32
  ![v197.toNat, 0]
def k0_dev13 (d0 : Dev nD) : Nat :=
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_227 : BitVec 32 := 4#32
  let v194 : BitVec 32 := Scalar.xori v2 c4_i32_227
  let c1_i32_235 : BitVec 32 := 1#32
  let v198 : BitVec 32 := Scalar.muli v194 c1_i32_235
  let v199 : BitVec 32 := Scalar.addi c0_i32_236 v198
  v199.toNat
def k0_dev14 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_227 : BitVec 32 := 4#32
  let v194 : BitVec 32 := Scalar.xori v2 c4_i32_227
  let c1_i32_248 : BitVec 32 := 1#32
  let v209 : BitVec 32 := Scalar.muli v194 c1_i32_248
  let v210 : BitVec 32 := Scalar.addi c0_i32_249 v209
  v210.toNat
def k0_dev15 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_227 : BitVec 32 := 4#32
  let v194 : BitVec 32 := Scalar.xori v2 c4_i32_227
  let c1_i32_260 : BitVec 32 := 1#32
  let v221 : BitVec 32 := Scalar.muli v194 c1_i32_260
  let v222 : BitVec 32 := Scalar.addi c0_i32_261 v221
  v222.toNat
def k0_dev16 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_227 : BitVec 32 := 4#32
  let v194 : BitVec 32 := Scalar.xori v2 c4_i32_227
  let c1_i32_272 : BitVec 32 := 1#32
  let v233 : BitVec 32 := Scalar.muli v194 c1_i32_272
  let v234 : BitVec 32 := Scalar.addi c0_i32_273 v233
  v234.toNat
def k0_off5 (d0 : Dev nD) (c0_i32_321 : BitVec 32) (c1376_i32_323 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v276 : BitVec 32 := Scalar.xori v2 c0_i32_321
  let c4096_i32_322 : BitVec 32 := 4096#32
  let v277 : BitVec 32 := Scalar.muli v276 c4096_i32_322
  let v278 : BitVec 32 := Scalar.addi v277 c1376_i32_323
  let c0_i32_330 : BitVec 32 := 0#32
  ![v278.toNat, 0]
def k0_off5_at (r : Fin 8) : BitVec 32 × BitVec 32 :=
  if r.val < 4 then
    if r.val < 2 then
      if r.val < 1 then
        (0#32, 1376#32)
      else
        (3#32, 1376#32)
    else
      if r.val < 3 then
        (4#32, 1376#32)
      else
        (7#32, 1376#32)
  else
    if r.val < 6 then
      if r.val < 5 then
        (0#32, 2736#32)
      else
        (4#32, 2736#32)
    else
      if r.val < 7 then
        (1#32, 2736#32)
      else
        (5#32, 2736#32)
def k0_dev17 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_320 : BitVec 32 := 1#32
  let v275 : BitVec 32 := Scalar.xori v2 c1_i32_320
  let c1_i32_328 : BitVec 32 := 1#32
  let v279 : BitVec 32 := Scalar.muli v275 c1_i32_328
  let v280 : BitVec 32 := Scalar.addi c0_i32_329 v279
  v280.toNat
def k0_dev18 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_320 : BitVec 32 := 1#32
  let v275 : BitVec 32 := Scalar.xori v2 c1_i32_320
  let c1_i32_341 : BitVec 32 := 1#32
  let v290 : BitVec 32 := Scalar.muli v275 c1_i32_341
  let v291 : BitVec 32 := Scalar.addi c0_i32_342 v290
  v291.toNat
def k0_dev19 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_320 : BitVec 32 := 1#32
  let v275 : BitVec 32 := Scalar.xori v2 c1_i32_320
  let c1_i32_354 : BitVec 32 := 1#32
  let v302 : BitVec 32 := Scalar.muli v275 c1_i32_354
  let v303 : BitVec 32 := Scalar.addi c0_i32_355 v302
  v303.toNat
def k0_dev20 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_320 : BitVec 32 := 1#32
  let v275 : BitVec 32 := Scalar.xori v2 c1_i32_320
  let c1_i32_366 : BitVec 32 := 1#32
  let v314 : BitVec 32 := Scalar.muli v275 c1_i32_366
  let v315 : BitVec 32 := Scalar.addi c0_i32_367 v314
  v315.toNat
def k0_dev21 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_414 : BitVec 32 := 3#32
  let v356 : BitVec 32 := Scalar.xori v2 c3_i32_414
  let c1_i32_422 : BitVec 32 := 1#32
  let v360 : BitVec 32 := Scalar.muli v356 c1_i32_422
  let v361 : BitVec 32 := Scalar.addi c0_i32_423 v360
  v361.toNat
def k0_dev22 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_414 : BitVec 32 := 3#32
  let v356 : BitVec 32 := Scalar.xori v2 c3_i32_414
  let c1_i32_435 : BitVec 32 := 1#32
  let v371 : BitVec 32 := Scalar.muli v356 c1_i32_435
  let v372 : BitVec 32 := Scalar.addi c0_i32_436 v371
  v372.toNat
def k0_dev23 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_414 : BitVec 32 := 3#32
  let v356 : BitVec 32 := Scalar.xori v2 c3_i32_414
  let c1_i32_448 : BitVec 32 := 1#32
  let v383 : BitVec 32 := Scalar.muli v356 c1_i32_448
  let v384 : BitVec 32 := Scalar.addi c0_i32_449 v383
  v384.toNat
def k0_dev24 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_414 : BitVec 32 := 3#32
  let v356 : BitVec 32 := Scalar.xori v2 c3_i32_414
  let c1_i32_461 : BitVec 32 := 1#32
  let v395 : BitVec 32 := Scalar.muli v356 c1_i32_461
  let v396 : BitVec 32 := Scalar.addi c0_i32_462 v395
  v396.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Plan.lean ====
/- The kernel as a list of named actions: its views, semaphores and tables, and the proof that the printed body runs
   exactly that list. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Gather

open Idealize.ShloMosaic Idealize.SL.Sem
open Cert.KernelIdeal Cert.KernelIdeal.Gen

variable {F : FTy → Type} [FloatOps F]

/-- The program's operations on a TensorCore. -/
abbrev Eff (F : FTy → Type) [FloatOps F] := TpuEff nD τ sig (Elt F) Λ₀ .tc

/-! ## Numbers -/

/-- The first row of the third `t` of a block. -/
abbrev row0 : Fin 3 → ℕ | 0 => 0 | 1 => 1376 | 2 => 2736
/-- The number of rows of the third `t`. -/
abbrev rows : Fin 3 → ℕ | 0 => 1376 | 1 => 1360 | 2 => 1360
/-- The shape of a third of a block. -/
abbrev Sm (t : Fin 3) : Shape := ⟨2, ![rows t, 1024]⟩
/-- The same with a leading axis of one. -/
abbrev Sm1 (t : Fin 3) : Shape := ⟨3, ![1, rows t, 1024]⟩

/-- The three masks the device number is changed by. -/
abbrev mask : Fin 3 → ℕ | 0 => 1 | 1 => 3 | 2 => 4
/-- The phase of the transfer `i` of a third. -/
abbrev phase : Fin 7 → Fin 3 := ![0, 1, 1, 2, 2, 2, 2]
/-- The mask a third uses in a phase. -/
abbrev dimOf (t p : Fin 3) : Fin 3 := t + p
/-- The mask whose partner the transfer `(t, i)` runs between. -/
abbrev mu (t : Fin 3) (i : Fin 7) : Fin 3 := dimOf t (phase i)
/-- The source slot of the transfer `i`: slot `0` the staged block, slot `j + 1` the block received by transfer `j`. -/
abbrev srcOf : Fin 7 → Fin 4 := ![0, 0, 1, 0, 1, 2, 3]
/-- By which mask the device whose block transfer `i` of third `t` brings differs from the receiver. -/
abbrev org (t : Fin 3) : Fin 7 → ℕ :=
  ![mask (dimOf t 0), mask (dimOf t 1), mask (dimOf t 1) ^^^ mask (dimOf t 0),
    mask (dimOf t 2), mask (dimOf t 2) ^^^ mask (dimOf t 0), mask (dimOf t 2) ^^^ mask (dimOf t 1),
    mask (dimOf t 2) ^^^ (mask (dimOf t 1) ^^^ mask (dimOf t 0))]

/-- The exclusive or of two device numbers is a device number. -/
theorem xor_lt {a b : ℕ} (ha : a < 8) (hb : b < 8) : a ^^^ b < 8 := Nat.xor_lt_two_pow (n := 3) ha hb

/-- A mask is less than eight. -/
theorem mask_lt : ∀ μ : Fin 3, mask μ < 8 := by decide
/-- A relative origin is less than eight. -/
theorem org_lt : ∀ (t : Fin 3) (i : Fin 7), org t i < 8 := by decide

/-- The device whose number differs from `c`'s by the mask `m`. -/
def flip (c : Dev nD) (m : ℕ) (h : m < 8) : Dev nD := ⟨c.val ^^^ m, xor_lt c.isLt h⟩
/-- The partner of `c` across the mask `μ`. -/
def partner (c : Dev nD) (μ : Fin 3) : Dev nD := flip c (mask μ) (mask_lt μ)
/-- The device whose block the transfer `(t, i)` brings to `c`. -/
def origin (c : Dev nD) (t : Fin 3) (i : Fin 7) : Dev nD := flip c (org t i) (org_lt t i)

/-- Index of a transfer landing in a slot. -/
abbrev ix3 (i : Fin 3) : Fin 7 := ⟨i.val, by omega⟩
/-- Index of a transfer landing in the result. -/
abbrev ix4 (i : Fin 4) : Fin 7 := ⟨i.val + 3, by omega⟩

/-! ## The printed tables -/

/-- The printed offset of the result rows the transfer `(t, i)` fills on the receiver. -/
abbrev recvOff (c : Dev nD) : Fin 3 → Fin 7 → (Fin 2 → ℕ)
  | 0, 0 => k0_off2 c 1#32 0#32 | 0, 1 => k0_off2 c 3#32 0#32 | 0, 2 => k0_off2 c 3#32 1#32 | 0, 3 => k0_off2 c 4#32 0#32
  | 0, 4 => k0_off2 c 4#32 1#32 | 0, 5 => k0_off2 c 4#32 3#32 | 0, 6 => k0_off2 c 4#32 2#32
  | 1, 0 => k0_off3 c 3#32 0#32 1376#32 | 1, 1 => k0_off3 c 4#32 0#32 1376#32 | 1, 2 => k0_off3 c 4#32 3#32 1376#32
  | 1, 3 => k0_off3 c 1#32 0#32 1376#32 | 1, 4 => k0_off3 c 1#32 3#32 1376#32 | 1, 5 => k0_off3 c 1#32 4#32 1376#32
  | 1, 6 => k0_off3 c 1#32 7#32 1376#32
  | 2, 0 => k0_off3 c 4#32 0#32 2736#32 | 2, 1 => k0_off3 c 1#32 0#32 2736#32 | 2, 2 => k0_off3 c 1#32 4#32 2736#32
  | 2, 3 => k0_off3 c 3#32 0#32 2736#32 | 2, 4 => k0_off3 c 3#32 4#32 2736#32 | 2, 5 => k0_off3 c 3#32 1#32 2736#32
  | 2, 6 => k0_off3 c 3#32 5#32 2736#32

/-- The printed offset, on the receiver, of the result rows the last-phase send `(t, i)` of `c` fills. -/
abbrev sendOff (c : Dev nD) : Fin 3 → Fin 4 → (Fin 2 → ℕ)
  | 0, 0 => k0_off4 c 0#32 | 0, 1 => k0_off4 c 1#32 | 0, 2 => k0_off4 c 3#32 | 0, 3 => k0_off4 c 2#32
  | 1, 0 => k0_off5 c 0#32 1376#32 | 1, 1 => k0_off5 c 3#32 1376#32 | 1, 2 => k0_off5 c 4#32 1376#32 | 1, 3 => k0_off5 c 7#32 1376#32
  | 2, 0 => k0_off5 c 0#32 2736#32 | 2, 1 => k0_off5 c 4#32 2736#32 | 2, 2 => k0_off5 c 1#32 2736#32 | 2, 3 => k0_off5 c 5#32 2736#32

/-- The printed device the barrier signal `μ` goes to. -/
abbrev sigDev (c : Dev nD) : Fin 3 → ℕ | 0 => k0_dev1 c | 1 => k0_dev2 c | 2 => k0_dev3 c
/-- The printed device the send `(t, i)` goes to. -/
abbrev sendDev (c : Dev nD) : Fin 3 → Fin 7 → ℕ
  | 0, 0 => k0_dev4 c | 0, 1 => k0_dev7 c | 0, 2 => k0_dev8 c | 0, 3 => k0_dev13 c | 0, 4 => k0_dev14 c | 0, 5 => k0_dev15 c | 0, 6 => k0_dev16 c
  | 1, 0 => k0_dev5 c | 1, 1 => k0_dev9 c | 1, 2 => k0_dev10 c | 1, 3 => k0_dev17 c | 1, 4 => k0_dev18 c | 1, 5 => k0_dev19 c | 1, 6 => k0_dev20 c
  | 2, 0 => k0_dev6 c | 2, 1 => k0_dev11 c | 2, 2 => k0_dev12 c | 2, 3 => k0_dev21 c | 2, 4 => k0_dev22 c | 2, 5 => k0_dev23 c | 2, 6 => k0_dev24 c

/-- The signal `μ` goes to the partner across `μ`. -/
theorem sigDev_eq : ∀ (c : Dev nD) (μ : Fin 3), sigDev c μ = (partner c μ).val := by decide +kernel
/-- The send `(t, i)` goes to the partner across its phase's mask. -/
theorem sendDev_eq : ∀ (c : Dev nD) (t : Fin 3) (i : Fin 7), sendDev c t i = (partner c (mu t i)).val := by decide +kernel
/-- The rows the transfer `(t, i)` fills on the receiver are the third `t` of its origin's block. -/
theorem recvOff_eq : ∀ (c : Dev nD) (t : Fin 3) (i : Fin 7), recvOff c t i = ![4096 * (origin c t i).val + row0 t, 0] := by decide +kernel
/-- So are the rows the sender names. -/
theorem sendOff_eq : ∀ (c : Dev nD) (t : Fin 3) (i : Fin 4),
    sendOff c t i = ![4096 * (origin (partner c (mu t (ix4 i))) t (ix4 i)).val + row0 t, 0] := by decide +kernel

/-- A signal goes to a device of the mesh. -/
theorem sigDev_lt (c : Dev nD) (μ : Fin 3) : sigDev c μ < nD := by rw [sigDev_eq]; exact (partner c μ).isLt
/-- A send goes to a device of the mesh. -/
theorem sendDev_lt (c : Dev nD) (t : Fin 3) (i : Fin 7) : sendDev c t i < nD := by rw [sendDev_eq]; exact (partner c _).isLt

/-! ## The views -/

/-- A third lies within the staged block. -/
theorem stage_inb : ∀ (t : Fin 3) (a : Fin 2), (![row0 t, 0] : Fin 2 → ℕ) a + (Sm t).size a ≤ S4096x1024.size a := by decide +kernel
/-- A slot's third lies within the scratch. -/
theorem comm_inb : ∀ (t j : Fin 3) (a : Fin 3), (![t.val, j.val * 1376, 0] : Fin 3 → ℕ) a + (Sm1 t).size a ≤ S3x4128x1024.size a := by
  decide +kernel
/-- A third of a device's rows lies within the result. -/
theorem out_inb : ∀ (o : Dev nD) (t : Fin 3) (a : Fin 2),
    (![4096 * o.val + row0 t, 0] : Fin 2 → ℕ) a + (Sm t).size a ≤ S32768x1024.size a := by decide +kernel
/-- The rows where a transfer lands lie within the result. -/
theorem recv_inb (c : Dev nD) (t : Fin 3) (i : Fin 7) (a : Fin 2) : recvOff c t i a + (Sm t).size a ≤ S32768x1024.size a := by
  rw [recvOff_eq]; exact out_inb _ t a
/-- The rows that a send of the last phase fills lie within the result. -/
theorem send_inb (c : Dev nD) (t : Fin 3) (i : Fin 4) (a : Fin 2) : sendOff c t i a + (Sm t).size a ≤ S32768x1024.size a := by
  rw [sendOff_eq]; exact out_inb _ t a
/-- A slot's third loses its leading axis of one. -/
theorem squeezes : ∀ t : Fin 3, (Sm1 t).Squeezes (Sm t)
  | 0 => Facts₀.squeezes_S1x1376x1024_S1376x1024
  | 1 => Facts₀.squeezes_S1x1360x1024_S1360x1024
  | 2 => Facts₀.squeezes_S1x1360x1024_S1360x1024

/-- The staged block. -/
abbrev stageW : Memref sig .tc .vmem S4096x1024 .bf16 := Memref.whole cc0_scratch0
/-- The third `t` of the staged block. -/
abbrev stageM (t : Fin 3) : Memref sig .tc .vmem (Sm t) .bf16 :=
  stageW.slice (Rect.unit (s := S4096x1024) ![row0 t, 0] (Sm t).size (stage_inb t)) (fun _ => rfl)
/-- The slot `j` of third `t`. -/
abbrev commM (t j : Fin 3) : Memref sig .tc .vmem (Sm t) .bf16 :=
  ((Memref.whole cc0_scratch1).slice (Rect.unit (s := S3x4128x1024) ![t.val, j.val * 1376, 0] (Sm1 t).size (comm_inb t j)) (fun _ => rfl)).squeeze
    (Sm t) (squeezes t)
/-- A third of the result at an offset. -/
abbrev outM (t : Fin 3) (off : Fin 2 → ℕ) (h : ∀ a, off a + (Sm t).size a ≤ S32768x1024.size a) : Memref sig .tc .hbm (Sm t) .bf16 :=
  (Memref.whole main_v1).slice (Rect.unit (s := S32768x1024) off (Sm t).size h) (fun _ => rfl)
/-- The result's own block. -/
abbrev ownM (off : Fin 2 → ℕ) (h : ∀ a, off a + S4096x1024.size a ≤ S32768x1024.size a) : Memref sig .tc .hbm S4096x1024 .bf16 :=
  (Memref.whole main_v1).slice (Rect.unit (s := S32768x1024) off S4096x1024.size h) (fun _ => rfl)
/-- What a send reads. -/
abbrev srcM (t : Fin 3) : Fin 4 → Memref sig .tc .vmem (Sm t) .bf16
  | 0 => stageM t | 1 => commM t 0 | 2 => commM t 1 | 3 => commM t 2

/-- A third of the staged block consists of whole words. -/
theorem stage_words : ∀ t : Fin 3,
    (Rect.unit (s := S4096x1024) ![row0 t, 0] (Sm t).size (stage_inb t)).WholeWords (EltTy.packing .bf16) := by decide +kernel
/-- A slot's third consists of whole words. -/
theorem comm_words : ∀ t j : Fin 3,
    (Rect.unit (s := S3x4128x1024) ![t.val, j.val * 1376, 0] (Sm1 t).size (comm_inb t j)).WholeWords (EltTy.packing .bf16) := by decide +kernel
/-- The rows where a transfer lands consist of whole words. -/
theorem recv_words : ∀ (c : Dev nD) (t : Fin 3) (i : Fin 7),
    (Rect.unit (s := S32768x1024) (recvOff c t i) (Sm t).size (recv_inb c t i)).WholeWords (EltTy.packing .bf16) := by decide +kernel
/-- The rows that a send of the last phase fills consist of whole words. -/
theorem send_words : ∀ (c : Dev nD) (t : Fin 3) (i : Fin 4),
    (Rect.unit (s := S32768x1024) (sendOff c t i) (Sm t).size (send_inb c t i)).WholeWords (EltTy.packing .bf16) := by decide +kernel

/-- The view of a third of the staged block consists of whole words. -/
theorem stage_we (t : Fin 3) : (stageM t).view.WordExact := (Memref.isWhole_whole cc0_scratch0).wordExact_slice rfl _ (stage_words t)
/-- The view of a slot consists of whole words. -/
theorem comm_we (t j : Fin 3) : (commM t j).view.WordExact :=
  ((Memref.isWhole_whole cc0_scratch1).wordExact_slice rfl _ (comm_words t j)).reshape _ _
/-- The view of the rows where a transfer lands consists of whole words. -/
theorem recv_we (c : Dev nD) (t : Fin 3) (i : Fin 7) : (outM t (recvOff c t i) (recv_inb c t i)).view.WordExact :=
  (Memref.isWhole_whole main_v1).wordExact_slice rfl _ (recv_words c t i)
/-- The view of the rows that a send fills consists of whole words. -/
theorem send_we (c : Dev nD) (t : Fin 3) (i : Fin 4) : (outM t (sendOff c t i) (send_inb c t i)).view.WordExact :=
  (Memref.isWhole_whole main_v1).wordExact_slice rfl _ (send_words c t i)
/-- The view that a send reads consists of whole words. -/
theorem src_we (t : Fin 3) : ∀ j : Fin 4, (srcM t j).view.WordExact
  | 0 => stage_we t | 1 => comm_we t 0 | 2 => comm_we t 1 | 3 => comm_we t 2

/-! ## The semaphores -/

/-- A transfer's semaphore lies within the array of three times seven. -/
theorem sem7_inb : ∀ (t : Fin 3) (i : Fin 7) (a : Fin 2), (![t.val, i.val] : Fin 2 → ℕ) a + S1x1.size a ≤ S3x7.size a := by decide
/-- A forward's semaphore lies within the array of three times three. -/
theorem sem3_inb : ∀ (t : Fin 3) (i : Fin 3) (a : Fin 2), (![t.val, i.val] : Fin 2 → ℕ) a + S1x1.size a ≤ S3x3.size a := by decide

/-- The semaphore a receiver waits on for transfer `(t, i)`. -/
abbrev rcvS (t : Fin 3) (i : Fin 7) : DmaSem sig :=
  ((cc0_scratch5.slice (Rect.unit (s := S3x7) ![t.val, i.val] S1x1.size (sem7_inb t i))).squeeze S_ Facts₀.squeezes_S1x1_S_).sem
/-- The semaphore a sender waits on for transfer `(t, i)`. -/
abbrev sndS (t : Fin 3) (i : Fin 7) : DmaSem sig :=
  ((cc0_scratch4.slice (Rect.unit (s := S3x7) ![t.val, i.val] S1x1.size (sem7_inb t i))).squeeze S_ Facts₀.squeezes_S1x1_S_).sem
/-- The semaphore of the local copy of slot `(t, i)` to the result. -/
abbrev fwdS (t : Fin 3) (i : Fin 3) : DmaSem sig :=
  ((cc0_scratch3.slice (Rect.unit (s := S3x3) ![t.val, i.val] S1x1.size (sem3_inb t i))).squeeze S_ Facts₀.squeezes_S1x1_S_).sem
/-- The semaphore of the local copy of the own block. -/
abbrev cpS : DmaSem sig := cc0_scratch2.sem
/-- The barrier's semaphore. -/
abbrev barS : Sem sig := (SemArray.scalar (sig.barrier 0 rfl) : Sems sig S_).sem

/-- The number of a receive semaphore. -/
theorem rcvS_val : ∀ (t : Fin 3) (i : Fin 7), (rcvS t i).val = 32 + (7 * t.val + i.val) := by decide +kernel
/-- The number of a send semaphore. -/
theorem sndS_val : ∀ (t : Fin 3) (i : Fin 7), (sndS t i).val = 11 + (7 * t.val + i.val) := by decide +kernel
/-- The number of a forward semaphore. -/
theorem fwdS_val : ∀ (t : Fin 3) (i : Fin 3), (fwdS t i).val = 2 + (3 * t.val + i.val) := by decide +kernel
/-- The number of the copy's semaphore. -/
theorem cpS_val : cpS.val = 1 := by decide +kernel

/-! ## The actions -/

/-- One step of the kernel. -/
inductive Act where
  | signal (μ : Fin 3) | waitBar | fill | copyOwn | waitOwn
  | sendC (t i : Fin 3) | recvC (t i : Fin 3) | drain (t i : Fin 3) | waitSendC (t i : Fin 3) | waitDrain (t i : Fin 3)
  | sendO (t : Fin 3) (i : Fin 4) | recvO (t : Fin 3) (i : Fin 4) | waitSendO (t : Fin 3) (i : Fin 4)

/-- The operations a step is, on the device `c`. -/
def act (c : Dev nD) : Act → Prog (Eff F) PUnit
  | .signal μ => semSignalWord (⟨sigDev c μ, sigDev_lt c μ⟩ : Dev nD) barS 1#32
  | .waitBar => semWaitWord barS 3#32
  | .fill => do
      let v13 : Vec F S4096x1024 .bf16 ← Prog.lift (.load ((win0_0).stage 0) (Rect.unit (s := S4096x1024) ![0, 0] S4096x1024.size Facts₀.inb_S4096x1024_S4096x1024_0_0).toLoadRect (View.loadsAt_vmem Facts₀.h_S4096x1024))
      let _ : Vec F S4096x1024 .bf16 ← Prog.lift (.load stageW (Rect.unit (s := S4096x1024) ![0, 0] S4096x1024.size Facts₀.inb_S4096x1024_S4096x1024_0_0).toLoadRect (View.loadsAt_vmem Facts₀.h_S4096x1024))
      Prog.lift (.store stageW (Rect.unit (s := S4096x1024) ![0, 0] S4096x1024.size Facts₀.inb_S4096x1024_S4096x1024_0_0) (k0_pay1 v13) Finset.univ (View.stores_vmem Facts₀.h_S4096x1024 ((Memref.isWhole_whole cc0_scratch0).storeExact_slice rfl _ Facts₀.packedbf16_S4096x1024_S4096x1024_0_0) (fun _ => rfl)) (.inl rfl))
  | .copyOwn => Prog.lift (.enqueueDma stageW (.here (ownM (k0_off1 c) (k0_off1_inb c))) (.dma cpS) (Memref.isWhole_whole cc0_scratch0).wordExact
      ((Memref.isWhole_whole main_v1).wordExact_slice rfl _ (k0_off1_wordsbf16 c)) ⟨Or.inl rfl, trivial⟩)
  | .waitOwn => Prog.lift (.waitDma2 cpS stageW (ownM (k0_off1 c) (k0_off1_inb c)) (Memref.isWhole_whole cc0_scratch0).wordExact
      ((Memref.isWhole_whole main_v1).wordExact_slice rfl _ (k0_off1_wordsbf16 c)))
  | .sendC t i => Prog.lift (.enqueueDma (srcM t (srcOf (ix3 i))) (.remote (Dev.tc (⟨sendDev c t (ix3 i), sendDev_lt c t (ix3 i)⟩ : Dev nD)) (commM t i)
      (.dma (sndS t (ix3 i)))) (.dma (rcvS t (ix3 i))) (src_we t _) (comm_we t i) ⟨⟨rfl, Or.inl rfl⟩, trivial⟩)
  | .sendO t i => Prog.lift (.enqueueDma (srcM t (srcOf (ix4 i))) (.remote (Dev.tc (⟨sendDev c t (ix4 i), sendDev_lt c t (ix4 i)⟩ : Dev nD))
      (outM t (sendOff c t i) (send_inb c t i)) (.dma (sndS t (ix4 i)))) (.dma (rcvS t (ix4 i))) (src_we t _) (send_we c t i) ⟨⟨rfl, Or.inl rfl⟩, trivial⟩)
  | .recvC t i => Prog.lift (.waitDma2 (rcvS t (ix3 i)) (commM t i) (commM t i) (comm_we t i) (comm_we t i))
  | .recvO t i => Prog.lift (.waitDma2 (rcvS t (ix4 i)) (outM t (recvOff c t (ix4 i)) (recv_inb c t (ix4 i))) (outM t (recvOff c t (ix4 i)) (recv_inb c t (ix4 i)))
      (recv_we c t (ix4 i)) (recv_we c t (ix4 i)))
  | .drain t i => Prog.lift (.enqueueDma (commM t i) (.here (outM t (recvOff c t (ix3 i)) (recv_inb c t (ix3 i)))) (.dma (fwdS t i)) (comm_we t i)
      (recv_we c t (ix3 i)) ⟨Or.inl rfl, trivial⟩)
  | .waitDrain t i => Prog.lift (.waitDma2 (fwdS t i) (commM t i) (outM t (recvOff c t (ix3 i)) (recv_inb c t (ix3 i))) (comm_we t i) (recv_we c t (ix3 i)))
  | .waitSendC t i => Prog.lift (.waitDma2 (sndS t (ix3 i)) (commM t i) (srcM t (srcOf (ix3 i))) (comm_we t i) (src_we t _))
  | .waitSendO t i => Prog.lift (.waitDma2 (sndS t (ix4 i)) (outM t (sendOff c t i) (send_inb c t i)) (srcM t (srcOf (ix4 i))) (send_we c t i) (src_we t _))

/-- A list of steps, one after another. -/
def runs (c : Dev nD) : List Act → Prog (Eff F) PUnit
  | [] => pure ⟨⟩
  | a :: l => (act c a).bind fun _ => runs c l

/-- The second phase of third `t`. -/
abbrev phase1 (t : Fin 3) : List Act := [.recvC t 0, .drain t 0, .sendC t 1, .sendC t 2]
/-- The third phase of third `t`. -/
abbrev phase2 (t : Fin 3) : List Act := [.recvC t 1, .drain t 1, .recvC t 2, .drain t 2, .sendO t 0, .sendO t 1, .sendO t 2, .sendO t 3]
/-- The last receipts of third `t`. -/
abbrev phase3 (t : Fin 3) : List Act := [.recvO t 0, .recvO t 1, .recvO t 2, .recvO t 3]

/-- The whole kernel, after the device number is read. -/
abbrev script : List Act :=
  [.signal 0, .signal 1, .signal 2, .waitBar, .fill, .copyOwn, .sendC 0 0, .sendC 1 0, .sendC 2 0]
  ++ (phase1 0 ++ phase1 1 ++ phase1 2) ++ (phase2 0 ++ phase2 1 ++ phase2 2) ++ (phase3 0 ++ phase3 1 ++ phase3 2)
  ++ [.waitSendC 0 0, .waitSendC 1 0, .waitSendC 2 0, .waitSendC 0 1, .waitSendC 0 2, .waitSendC 1 1, .waitSendC 1 2, .waitSendC 2 1, .waitSendC 2 2]
  ++ [.waitSendO 0 0, .waitSendO 0 1, .waitSendO 0 2, .waitSendO 0 3, .waitSendO 1 0, .waitSendO 1 1, .waitSendO 1 2, .waitSendO 1 3,
      .waitSendO 2 0, .waitSendO 2 1, .waitSendO 2 2, .waitSendO 2 3]
  ++ [.waitDrain 0 0, .waitDrain 1 0, .waitDrain 2 0, .waitDrain 0 1, .waitDrain 0 2, .waitDrain 1 1, .waitDrain 1 2, .waitDrain 2 1, .waitDrain 2 2, .waitOwn]

/-- The body the pipeline calls. -/
abbrev body : Prog (Eff F) PUnit :=
  cc0_body (win0_0.stage 0) (hstage0_0 0) (Memref.whole main_v1) (Memref.isWhole_whole _) (Memref.whole cc0_scratch0) (Memref.isWhole_whole _)
    (Memref.whole cc0_scratch1) (Memref.isWhole_whole _) cc0_scratch2 cc0_scratch3 cc0_scratch4 cc0_scratch5

/-- The printed body reads the device number and runs the script. -/
theorem body_eq : body (F := F) = .op .deviceId (fun c => runs c script) := by
  rfl

end Cert.KernelIdeal.Gather
-- ==== Proof.Regions.lean ====
/- The three buffers the kernel works on: what each holds at the end, and how each is cut into the parts the transfers
   move. -/
module

public import proofs.«01_k».proof.Proof.Plan
public import Idealize.ShloMosaic.Lib.Pipeline.ValueKit.Geometry

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the transfers: rounds with up to three payers each. -/
abbrev UB : Type := URounds (GSem nD τ sig) (Fin 3)
/-- The pipeline's ghost state beside it. -/
abbrev UU : Type := UR sig nD τ × UB

local notation "𝕄" => MT nD τ sig Unit (Elt F) ℕ UU ℕ

/-- No third has more than 1376 rows. -/
theorem rows_le : ∀ t : Fin 3, rows t ≤ 1376 := by decide
/-- Every third ends within the block. -/
theorem third_le : ∀ t : Fin 3, row0 t + rows t ≤ 4096 := by decide

/-! ## Contents -/

/-- A block of the array: what one device contributes. -/
abbrev Blk (F : FTy → Type) := Vec F S4096x1024 .bf16

/-- The element of a block at a row and a column given as numbers. -/
def at2 (x : Blk F) (r k : ℕ) : Elt F .bf16 :=
  x fun a => ⟨(![min r 4095, min k 1023] : Fin 2 → ℕ) a, by
    revert a; rw [Fin.forall_fin_two]; exact ⟨show min r 4095 < 4096 by omega, show min k 1023 < 1024 by omega⟩⟩

omit [FloatOps F] in
/-- Every element of a block is at its own row and column. -/
theorem at2_self (x : Blk F) (i : S4096x1024.Idx) {r k : ℕ} (hr : (i 0 : ℕ) = r) (hk : (i 1 : ℕ) = k) : x i = at2 x r k := by
  have h0 : (i 0 : ℕ) < 4096 := (i 0).isLt
  have h1 : (i 1 : ℕ) < 1024 := (i 1).isLt
  unfold at2
  refine congrArg x (funext fun a => Fin.ext ?_)
  revert a; rw [Fin.forall_fin_two]
  exact ⟨show (i 0 : ℕ) = min r 4095 by omega, show (i 1 : ℕ) = min k 1023 by omega⟩

variable (X : Dev nD → Blk F)

/-- What the staged block of `c` holds: its own block. -/
def Sg (c : Dev nD) : Buf (Elt F) ((c : Thread nD τ).loc cc0_scratch0) := X c
/-- What the slots of `c` hold once filled: each the third of its origin's block. -/
def Cm (c : Dev nD) : Buf (Elt F) ((c : Thread nD τ).loc cc0_scratch1) := fun (x : S3x4128x1024.Idx) =>
  at2 (X (origin c ⟨(x 0 : ℕ) % 3, Nat.mod_lt _ (by decide)⟩ ⟨(x 1 : ℕ) / 1376 % 7, Nat.mod_lt _ (by decide)⟩))
    (row0 ⟨(x 0 : ℕ) % 3, Nat.mod_lt _ (by decide)⟩ + (x 1 : ℕ) % 1376) (x 2 : ℕ)
/-- The gathered array. -/
def Gd : Vec F S32768x1024 .bf16 := fun x =>
  at2 (X ⟨(x 0 : ℕ) / 4096 % 8, Nat.mod_lt _ (by decide)⟩) ((x 0 : ℕ) % 4096) (x 1 : ℕ)
omit [FloatOps F] in
/-- A slot's element is its origin's. -/
theorem Cm_apply (c : Dev nD) (x : S3x4128x1024.Idx) (t j : Fin 3) {r k : ℕ} (hr : r < 1376) (h0 : (x 0 : ℕ) = t.val)
    (h1 : (x 1 : ℕ) = j.val * 1376 + r) (h2 : (x 2 : ℕ) = k) : Cm X c x = at2 (X (origin c t (ix3 j))) (row0 t + r) k := by
  have ht : (⟨(x 0 : ℕ) % 3, Nat.mod_lt _ (by decide)⟩ : Fin 3) = t := Fin.ext (show (x 0 : ℕ) % 3 = t.val by omega)
  have hj : (⟨(x 1 : ℕ) / 1376 % 7, Nat.mod_lt _ (by decide)⟩ : Fin 7) = ix3 j := Fin.ext (show (x 1 : ℕ) / 1376 % 7 = j.val by omega)
  have hm : (x 1 : ℕ) % 1376 = r := by omega
  unfold Cm
  rw [ht, hj, hm, h2]

omit [FloatOps F] in
/-- An element of the gathered array is that of the block its row is in. -/
theorem Gd_apply (x : S32768x1024.Idx) (o : Dev nD) {r k : ℕ} (hr : r < 4096) (h0 : (x 0 : ℕ) = 4096 * o.val + r) (h1 : (x 1 : ℕ) = k) :
    Gd X x = at2 (X o) r k := by
  have ho : o.val < 8 := o.isLt
  have hd : (⟨(x 0 : ℕ) / 4096 % 8, Nat.mod_lt _ (by decide)⟩ : Dev nD) = o := Fin.ext (show (x 0 : ℕ) / 4096 % 8 = o.val by omega)
  have hm : (x 0 : ℕ) % 4096 = r := by omega
  unfold Gd
  rw [hd, hm, h1]

/-- The same as a device's result buffer. -/
def Go (c : Dev nD) : Buf (Elt F) ((c : Thread nD τ).loc main_v1) := Gd X

/-- The third `t` of the block of device `o`. -/
def third (o : Dev nD) (t : Fin 3) : Vec F (Sm t) .bf16 := fun j => at2 (X o) (row0 t + (j 0 : ℕ)) (j 1 : ℕ)

omit [FloatOps F] in
/-- The staged block, read at a third, is that third. -/
theorem read_stage (c : Dev nD) (t : Fin 3) : (stageM t).view.read (Elt F) (Sg X c) = third X c t := by
  funext j
  exact at2_self (X c) _ (ValueKit.view_emb_slice_whole_unit_val cc0_scratch0 _ _ (stage_inb t) j 0)
    ((ValueKit.view_emb_slice_whole_unit_val cc0_scratch0 _ _ (stage_inb t) j 1).trans (Nat.zero_add _))

omit [FloatOps F] in
/-- A slot, read, is the third of its origin's block. -/
theorem read_comm (c : Dev nD) (t j : Fin 3) : (commM t j).view.read (Elt F) (Cm X c) = third X (origin c t (ix3 j)) t := by
  funext x
  have hx : (Shape.reshapeEquiv (squeezes t).numel_eq x : (Sm1 t).Idx) = Fin.cons ⟨0, Nat.one_pos⟩ x :=
    Shape.reshapeEquiv_cons_one (squeezes t).numel_eq x
  have hr : (x 0 : ℕ) < 1376 := lt_of_lt_of_le (x 0).isLt (rows_le t)
  have he (a : Fin 3) : (((commM t j).view.emb x a : Fin _) : ℕ)
      = (![t.val, j.val * 1376, 0] : Fin 3 → ℕ) a + ((Fin.cons ⟨0, Nat.one_pos⟩ x : (Sm1 t).Idx) a : ℕ) := by
    rw [← hx]
    exact ValueKit.view_emb_slice_whole_unit_val cc0_scratch1 _ _ (comm_inb t j) (Shape.reshapeEquiv (squeezes t).numel_eq x : (Sm1 t).Idx) a
  have h0 : (((commM t j).view.emb x 0 : Fin _) : ℕ) = t.val := (he 0).trans (Nat.add_zero _)
  have h1 : (((commM t j).view.emb x 1 : Fin _) : ℕ) = j.val * 1376 + (x 0 : ℕ) := he 1
  have h2 : (((commM t j).view.emb x 2 : Fin _) : ℕ) = (x 1 : ℕ) := (he 2).trans (Nat.zero_add _)
  exact Cm_apply X c ((commM t j).view.emb x) t j hr h0 h1 h2

omit [FloatOps F] in
/-- A third of a block of the gathered array, read, is the third of that block. -/
theorem read_out (c o : Dev nD) (t : Fin 3) : (outM t ![4096 * o.val + row0 t, 0] (out_inb o t)).view.read (Elt F) (Go X c) = third X o t := by
  funext x
  have hr : row0 t + (x 0 : ℕ) < 4096 := lt_of_lt_of_le (Nat.add_lt_add_left (x 0).isLt _) (third_le t)
  have ho := o.isLt
  have h0 : (((outM t ![4096 * o.val + row0 t, 0] (out_inb o t)).view.emb x 0 : Fin _) : ℕ) = 4096 * o.val + row0 t + (x 0 : ℕ) :=
    ValueKit.view_emb_slice_whole_unit_val main_v1 _ _ (out_inb o t) x 0
  have h1 : (((outM t ![4096 * o.val + row0 t, 0] (out_inb o t)).view.emb x 1 : Fin _) : ℕ) = (x 1 : ℕ) :=
    (ValueKit.view_emb_slice_whole_unit_val main_v1 _ _ (out_inb o t) x 1).trans (Nat.zero_add _)
  exact Gd_apply X ((outM t ![4096 * o.val + row0 t, 0] (out_inb o t)).view.emb x) o hr (h0.trans (Nat.add_assoc _ _ _)) h1

/-- A device's block lies within the result. -/
theorem own_inb : ∀ (o : Dev nD) (a : Fin 2), (![4096 * o.val, 0] : Fin 2 → ℕ) a + S4096x1024.size a ≤ S32768x1024.size a := by decide +kernel

omit [FloatOps F] in
/-- A block of the gathered array, read, is that block. -/
theorem read_own (c o : Dev nD) : (ownM ![4096 * o.val, 0] (own_inb o)).view.read (Elt F) (Go X c) = stageW.view.read (Elt F) (Sg X o) := by
  funext x
  have hr : (x 0 : ℕ) < 4096 := (x 0).isLt
  have ho := o.isLt
  have h0 : (((ownM ![4096 * o.val, 0] (own_inb o)).view.emb x 0 : Fin _) : ℕ) = 4096 * o.val + (x 0 : ℕ) :=
    ValueKit.view_emb_slice_whole_unit_val main_v1 _ _ (own_inb o) x 0
  have h1 : (((ownM ![4096 * o.val, 0] (own_inb o)).view.emb x 1 : Fin _) : ℕ) = (x 1 : ℕ) :=
    (ValueKit.view_emb_slice_whole_unit_val main_v1 _ _ (own_inb o) x 1).trans (Nat.zero_add _)
  exact (Gd_apply X ((ownM ![4096 * o.val, 0] (own_inb o)).view.emb x) o hr h0 h1).trans (at2_self (X o) x rfl rfl).symm

omit [FloatOps F] in
/-- A view written with what a buffer reads there holds, on the view, what that buffer holds. -/
theorem write_on {κ : Kind} {sp : Space} {s : Shape} {e : EltTy} (v : View sig κ sp s e) (f g : v.ty.Contents (Elt F)) :
    ∀ i ∈ v.set, v.write (Elt F) f (v.read (Elt F) g) Finset.univ i = g i := by
  intro i hi
  obtain ⟨x, -, rfl⟩ := Finset.mem_map.mp hi
  rw [v.write_emb_of_mem _ _ (Finset.mem_univ x), v.read_apply, cast_cast, cast_eq]

/-! ## Halving shares -/

omit [FloatOps F] in
/-- A share is its two halves. -/
theorem halves {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-! ## Parts -/

/-- The third `t` of the staged block of `c`, at a share. -/
def stg (c : Dev nD) (t : Fin 3) (q : PosShare TreeShare) : sProp 𝕄 := (stageM t).view.loc (c : Thread nD τ) ↦[(stageM t).view.set]{q} Sg X c
/-- The whole staged block of `c`, at a share. -/
def stgW (c : Dev nD) (q : PosShare TreeShare) : sProp 𝕄 := stageW.view.loc (c : Thread nD τ) ↦[stageW.view.set]{q} Sg X c
/-- The slot `j` of third `t` of `c`, filled, at a share. -/
def cm (c : Dev nD) (t j : Fin 3) (q : PosShare TreeShare) : sProp 𝕄 := (commM t j).view.loc (c : Thread nD τ) ↦[(commM t j).view.set]{q} Cm X c
/-- The slot with any contents. -/
def cmU (c : Dev nD) (t j : Fin 3) : sProp 𝕄 := iprop(∃ f, (commM t j).view.loc (c : Thread nD τ) ↦[(commM t j).view.set]{fullShare} f)
/-- The third `t` of the block of `o` in the result of `c`, filled. -/
def out (c o : Dev nD) (t : Fin 3) : sProp 𝕄 :=
  (outM t ![4096 * o.val + row0 t, 0] (out_inb o t)).view.loc (c : Thread nD τ) ↦[(outM t ![4096 * o.val + row0 t, 0] (out_inb o t)).view.set]{fullShare} Go X c
/-- The same with any contents. -/
def outU (c o : Dev nD) (t : Fin 3) : sProp 𝕄 :=
  iprop(∃ f, (outM t ![4096 * o.val + row0 t, 0] (out_inb o t)).view.loc (c : Thread nD τ) ↦[(outM t ![4096 * o.val + row0 t, 0] (out_inb o t)).view.set]{fullShare} f)
/-- The own block in the result of `c`, filled. -/
def own (c : Dev nD) : sProp 𝕄 :=
  (ownM ![4096 * c.val, 0] (own_inb c)).view.loc (c : Thread nD τ) ↦[(ownM ![4096 * c.val, 0] (own_inb c)).view.set]{fullShare} Go X c
/-- The same with any contents. -/
def ownU (c : Dev nD) : sProp 𝕄 :=
  iprop(∃ f, (ownM ![4096 * c.val, 0] (own_inb c)).view.loc (c : Thread nD τ) ↦[(ownM ![4096 * c.val, 0] (own_inb c)).view.set]{fullShare} f)

section Storable
omit [FloatOps F]
instance (c : Dev nD) (t : Fin 3) (q) : BI.Storable (upEmb : UEmb _ 𝕄) (stg X c t q) := by unfold stg; infer_instance
instance (c : Dev nD) (q) : BI.Storable (upEmb : UEmb _ 𝕄) (stgW X c q) := by unfold stgW; infer_instance
instance (c : Dev nD) (t j : Fin 3) (q) : BI.Storable (upEmb : UEmb _ 𝕄) (cm X c t j q) := by unfold cm; infer_instance
instance (c : Dev nD) (t j : Fin 3) : BI.Storable (upEmb : UEmb _ 𝕄) (cmU (F := F) c t j) := by unfold cmU; infer_instance
instance (c o : Dev nD) (t : Fin 3) : BI.Storable (upEmb : UEmb _ 𝕄) (out X c o t) := by unfold out; infer_instance
instance (c o : Dev nD) (t : Fin 3) : BI.Storable (upEmb : UEmb _ 𝕄) (outU (F := F) c o t) := by unfold outU; infer_instance
instance (c : Dev nD) : BI.Storable (upEmb : UEmb _ 𝕄) (own X c) := by unfold own; infer_instance
instance (c : Dev nD) : BI.Storable (upEmb : UEmb _ 𝕄) (ownU (F := F) c) := by unfold ownU; infer_instance
end Storable

/-! ### Cutting the staged block -/

/-- The cells of a third of the staged block, by their row. -/
theorem mem_stage (t : Fin 3) (x : S4096x1024.Idx) : x ∈ (stageM t).view.set ↔ row0 t ≤ (x 0 : ℕ) ∧ (x 0 : ℕ) < row0 t + rows t := by
  refine ValueKit.mem_set_slice_whole_iff cc0_scratch0 _ x (Rect.mem_set_unit.trans ⟨fun h => h 0, fun h => Fin.forall_fin_two.mpr ?_⟩)
  exact ⟨h, Nat.zero_le _, (x 1).isLt.trans_eq (Nat.zero_add _).symm⟩

omit [FloatOps F] in
/-- The staged block is its three thirds. -/
theorem stage_cut (c : Dev nD) (q : PosShare TreeShare) : (stgW X c q : sProp 𝕄) = bigSep Finset.univ fun t : Fin 3 => stg X c t q := by
  unfold stgW stg
  rw [View.set_whole, ← pointsTo_biUnion (ℓ := (c : Thread nD τ).loc cc0_scratch0) Finset.univ (fun t : Fin 3 => (stageM t).view.set)]
  · refine congrArg (fun S : Finset S4096x1024.Idx => ((c : Thread nD τ).loc cc0_scratch0 ↦[S]{q} Sg X c : sProp 𝕄)) (Finset.ext fun x => ?_)
    have hx : (x 0 : ℕ) < 4096 := (x 0).isLt
    refine ⟨fun _ => Finset.mem_biUnion.mpr ?_, fun _ => Finset.mem_univ _⟩
    by_cases h1 : (x 0 : ℕ) < 1376
    · exact ⟨0, Finset.mem_univ _, (mem_stage 0 x).mpr (by simp only [row0, rows]; omega)⟩
    by_cases h2 : (x 0 : ℕ) < 2736
    · exact ⟨1, Finset.mem_univ _, (mem_stage 1 x).mpr (by simp only [row0, rows]; omega)⟩
    · exact ⟨2, Finset.mem_univ _, (mem_stage 2 x).mpr (by simp only [row0, rows]; omega)⟩
  · intro t _ t' _ hne
    refine Finset.disjoint_left.mpr fun x h h' => hne ?_
    have := (mem_stage t x).mp h; have := (mem_stage t' x).mp h'
    revert hne; fin_cases t <;> fin_cases t' <;> simp only [row0, rows] at * <;> intro hne <;> first | rfl | (exfalso; omega)

/-! ### Cutting the slots -/

/-- A cell of a slot names its third and its slot. -/
theorem mem_comm (t j : Fin 3) (x : S3x4128x1024.Idx) :
    x ∈ (commM t j).view.set → (x 0 : ℕ) = t.val ∧ (x 1 : ℕ) / 1376 = j.val := by
  intro h
  rw [show (commM t j).view.set = ((View.whole cc0_scratch1).slice (Rect.unit (s := S3x4128x1024) ![t.val, j.val * 1376, 0] (Sm1 t).size (comm_inb t j))).set
    from View.set_reshape _ _, View.set_slice_whole] at h
  have h := Rect.mem_set_unit.mp h
  have h0 : t.val ≤ (x 0 : ℕ) ∧ (x 0 : ℕ) < t.val + 1 := h 0
  have h1 : j.val * 1376 ≤ (x 1 : ℕ) ∧ (x 1 : ℕ) < j.val * 1376 + rows t := h 1
  have := rows_le t
  omega

/-- The elements of the slots. -/
def slots : Finset S3x4128x1024.Idx := Finset.univ.biUnion fun p : Fin 3 × Fin 3 => (commM p.1 p.2).view.set

omit [FloatOps F] in
/-- The slots' elements are those of the nine slots. -/
theorem comm_slots (c : Dev nD) (f : Buf (Elt F) ((c : Thread nD τ).loc cc0_scratch1)) :
    ((c : Thread nD τ).loc cc0_scratch1 ↦[slots]{fullShare} f : sProp 𝕄)
      = bigSep Finset.univ fun p : Fin 3 × Fin 3 => iprop((commM p.1 p.2).view.loc (c : Thread nD τ) ↦[(commM p.1 p.2).view.set]{fullShare} f) := by
  unfold slots
  refine pointsTo_biUnion (ℓ := (c : Thread nD τ).loc cc0_scratch1) Finset.univ (fun p : Fin 3 × Fin 3 => (commM p.1 p.2).view.set) ?_
  intro p _ p' _ hne
  refine Finset.disjoint_left.mpr fun x h h' => hne ?_
  have h1 := mem_comm _ _ _ h; have h2 := mem_comm _ _ _ h'
  exact Prod.ext (Fin.ext (by omega)) (Fin.ext (by omega))

/-- What the slots leave of their buffer. -/
def commRest (c : Dev nD) : sProp 𝕄 := iprop(∃ f, (c : Thread nD τ).loc cc0_scratch1 ↦[Finset.univ \ slots]{fullShare} f)

omit [FloatOps F] in
/-- The slots' buffer, with any contents, is cut into the slots and the rest. -/
theorem comm_cut (c : Dev nD) (f : Buf (Elt F) ((c : Thread nD τ).loc cc0_scratch1)) :
    ((c : Thread nD τ).loc cc0_scratch1 ↦{fullShare} f : sProp 𝕄) ⊢ iprop((bigSep Finset.univ fun p : Fin 3 × Fin 3 => cmU c p.1 p.2) ∗ commRest c) := by
  refine (pointsTo_split_subset (Finset.subset_univ slots)).1.trans ?_
  rw [comm_slots]
  refine BIClass.sep_mono (bigSep_mono fun p _ => exists_intro (Φ := fun f => iprop((commM p.1 p.2).view.loc (c : Thread nD τ) ↦[(commM p.1 p.2).view.set]{fullShare} f)) f) ?_
  · unfold commRest; iintro H; iexists f; iexact H

omit [FloatOps F] in
/-- The filled slots and the rest make the slots' buffer again. -/
theorem comm_join (c : Dev nD) :
    iprop((bigSep Finset.univ fun p : Fin 3 × Fin 3 => cm X c p.1 p.2 fullShare) ∗ commRest c)
      ⊢ (∃ f, (c : Thread nD τ).loc cc0_scratch1 ↦{fullShare} f : sProp 𝕄) := by
  unfold cm
  rw [← comm_slots]
  unfold commRest
  iintro ⟨H, ⟨%g, Hg⟩⟩
  iexists (Finset.univ \ slots).piecewise g (Cm X c)
  ihave H := (pointsTo_join (ℓ := (c : Thread nD τ).loc cc0_scratch1) (I := slots) (J := Finset.univ \ slots) Finset.disjoint_sdiff) $$ [H Hg]
  · isplitl [H] <;> iassumption
  rw [Finset.union_sdiff_of_subset (Finset.subset_univ slots)]
  iexact H

/-! ### Cutting the result -/

/-- The cells of a third of a device's rows in the result, by their row. -/
theorem mem_out (o : Dev nD) (t : Fin 3) (x : S32768x1024.Idx) :
    x ∈ (outM t ![4096 * o.val + row0 t, 0] (out_inb o t)).view.set
      ↔ 4096 * o.val + row0 t ≤ (x 0 : ℕ) ∧ (x 0 : ℕ) < 4096 * o.val + row0 t + rows t := by
  refine ValueKit.mem_set_slice_whole_iff main_v1 _ x (Rect.mem_set_unit.trans ⟨fun h => h 0, fun h => Fin.forall_fin_two.mpr ?_⟩)
  exact ⟨h, Nat.zero_le _, (x 1).isLt.trans_eq (Nat.zero_add _).symm⟩

/-- The cells of a device's block in the result, by their row. -/
theorem mem_own (o : Dev nD) (x : S32768x1024.Idx) :
    x ∈ (ownM ![4096 * o.val, 0] (own_inb o)).view.set ↔ 4096 * o.val ≤ (x 0 : ℕ) ∧ (x 0 : ℕ) < 4096 * o.val + 4096 := by
  refine ValueKit.mem_set_slice_whole_iff main_v1 _ x (Rect.mem_set_unit.trans ⟨fun h => h 0, fun h => Fin.forall_fin_two.mpr ?_⟩)
  exact ⟨h, Nat.zero_le _, (x 1).isLt.trans_eq (Nat.zero_add _).symm⟩

/-- No transfer brings a device's own block. -/
theorem origin_ne : ∀ (c : Dev nD) (t : Fin 3) (i : Fin 7), (origin c t i).val ≠ c.val := by decide
/-- The seven transfers of a third bring the blocks of different devices. -/
theorem origin_inj : ∀ (c : Dev nD) (t : Fin 3) (i i' : Fin 7), (origin c t i).val = (origin c t i').val → i = i' := by decide
/-- Every other device's block is brought by some transfer. -/
theorem origin_onto : ∀ (c : Dev nD) (t : Fin 3) (o : Fin 8), o.val ≠ c.val → ∃ i, (origin c t i).val = o.val := by decide

/-- Two thirds that overlap are the same. -/
theorem third_eq : ∀ t t' : Fin 3, row0 t < row0 t' + rows t' → row0 t' < row0 t + rows t → t = t' := by decide

/-- The elements of the result the transfers fill on `c`. -/
def outs (c : Dev nD) : Finset S32768x1024.Idx :=
  Finset.univ.biUnion fun p : Fin 3 × Fin 7 => (outM p.1 ![4096 * (origin c p.1 p.2).val + row0 p.1, 0] (out_inb (origin c p.1 p.2) p.1)).view.set

omit [FloatOps F] in
/-- They are those of the twenty-one parts. -/
theorem outs_parts (c : Dev nD) (f : Buf (Elt F) ((c : Thread nD τ).loc main_v1)) :
    ((c : Thread nD τ).loc main_v1 ↦[outs c]{fullShare} f : sProp 𝕄)
      = bigSep Finset.univ fun p : Fin 3 × Fin 7 =>
          iprop((outM p.1 ![4096 * (origin c p.1 p.2).val + row0 p.1, 0] (out_inb (origin c p.1 p.2) p.1)).view.loc (c : Thread nD τ)
            ↦[(outM p.1 ![4096 * (origin c p.1 p.2).val + row0 p.1, 0] (out_inb (origin c p.1 p.2) p.1)).view.set]{fullShare} f) := by
  unfold outs
  refine pointsTo_biUnion (ℓ := (c : Thread nD τ).loc main_v1) Finset.univ
    (fun p : Fin 3 × Fin 7 => (outM p.1 ![4096 * (origin c p.1 p.2).val + row0 p.1, 0] (out_inb (origin c p.1 p.2) p.1)).view.set) ?_
  intro p _ p' _ hne
  refine Finset.disjoint_left.mpr fun x h h' => hne ?_
  obtain ⟨t, i⟩ := p; obtain ⟨t', i'⟩ := p'
  have h1 := (mem_out _ _ _).mp h; have h2 := (mem_out _ _ _).mp h'
  have hb1 := third_le t; have hb2 := third_le t'
  dsimp only at h1 h2
  generalize ha : (origin c t i).val = a at h1
  generalize hb : (origin c t' i').val = b at h2
  have hab : a = b := by omega
  have ho : (origin c t i).val = (origin c t' i').val := by rw [ha, hb, hab]
  have ht : t = t' := by
    rw [hab] at h1
    have h3 : row0 t < row0 t' + rows t' := by omega
    have h4 : row0 t' < row0 t + rows t := by omega
    exact third_eq t t' h3 h4
  subst ht
  rw [origin_inj c t i i' ho]

/-- A device's own block is apart from the rows that the transfers fill. -/
theorem own_disjoint (c : Dev nD) : Disjoint (ownM ![4096 * c.val, 0] (own_inb c)).view.set (outs c) := by
  refine Finset.disjoint_left.mpr fun x h h' => ?_
  obtain ⟨p, -, hp⟩ := Finset.mem_biUnion.mp h'
  have h1 := (mem_own _ _).mp h; have h2 := (mem_out _ _ _).mp hp
  have hb := third_le p.1
  have := origin_ne c p.1 p.2
  omega

/-- A device's own block and the rows that the transfers fill make up the result. -/
theorem own_union (c : Dev nD) : (ownM ![4096 * c.val, 0] (own_inb c)).view.set ∪ outs c = Finset.univ := by
  refine Finset.eq_univ_iff_forall.mpr fun x => Finset.mem_union.mpr ?_
  have hx : (x 0 : ℕ) < 32768 := (x 0).isLt
  by_cases h : (x 0 : ℕ) / 4096 = c.val
  · exact .inl ((mem_own c x).mpr (by omega))
  · right
    have ht : ∃ t : Fin 3, row0 t ≤ (x 0 : ℕ) % 4096 ∧ (x 0 : ℕ) % 4096 < row0 t + rows t := by
      by_cases h1 : (x 0 : ℕ) % 4096 < 1376
      · exact ⟨0, by simp only [row0, rows]; omega⟩
      by_cases h2 : (x 0 : ℕ) % 4096 < 2736
      · exact ⟨1, by simp only [row0, rows]; omega⟩
      · exact ⟨2, by simp only [row0, rows]; omega⟩
    obtain ⟨t, ht⟩ := ht
    obtain ⟨i, hi⟩ := origin_onto c t ⟨(x 0 : ℕ) / 4096, by omega⟩ h
    simp only at hi
    exact Finset.mem_biUnion.mpr ⟨(t, i), Finset.mem_univ _, (mem_out _ _ _).mpr (by simp only; omega)⟩

omit [FloatOps F] in
/-- The result buffer is the own block and the twenty-one parts. -/
theorem out_parts (c : Dev nD) (f : Buf (Elt F) ((c : Thread nD τ).loc main_v1)) :
    ((c : Thread nD τ).loc main_v1 ↦{fullShare} f : sProp 𝕄)
      = iprop(((ownM ![4096 * c.val, 0] (own_inb c)).view.loc (c : Thread nD τ) ↦[(ownM ![4096 * c.val, 0] (own_inb c)).view.set]{fullShare} f)
          ∗ bigSep Finset.univ fun p : Fin 3 × Fin 7 =>
          iprop((outM p.1 ![4096 * (origin c p.1 p.2).val + row0 p.1, 0] (out_inb (origin c p.1 p.2) p.1)).view.loc (c : Thread nD τ)
            ↦[(outM p.1 ![4096 * (origin c p.1 p.2).val + row0 p.1, 0] (out_inb (origin c p.1 p.2) p.1)).view.set]{fullShare} f)) := by
  rw [← outs_parts]
  refine Eq.trans ?_ (BI.Entails.antisymm (pointsTo_union (ℓ := (c : Thread nD τ).loc main_v1) (own_disjoint c)).1 (pointsTo_union (ℓ := (c : Thread nD τ).loc main_v1) (own_disjoint c)).2)
  rw [own_union]

omit [FloatOps F] in
/-- The result buffer, with any contents, is cut into them. -/
theorem out_cut (c : Dev nD) (f : Buf (Elt F) ((c : Thread nD τ).loc main_v1)) :
    ((c : Thread nD τ).loc main_v1 ↦{fullShare} f : sProp 𝕄) ⊢ iprop(ownU c ∗ bigSep Finset.univ fun p : Fin 3 × Fin 7 => outU c (origin c p.1 p.2) p.1) := by
  rw [out_parts]
  refine BIClass.sep_mono ?_ (bigSep_mono fun p _ => exists_intro (Φ := fun f => iprop((outM p.1 ![4096 * (origin c p.1 p.2).val + row0 p.1, 0] (out_inb (origin c p.1 p.2) p.1)).view.loc (c : Thread nD τ)
            ↦[(outM p.1 ![4096 * (origin c p.1 p.2).val + row0 p.1, 0] (out_inb (origin c p.1 p.2) p.1)).view.set]{fullShare} f)) f)
  · unfold ownU; iintro H; iexists f; iexact H

omit [FloatOps F] in
/-- Filled, they make the gathered array. -/
theorem out_join (c : Dev nD) :
    iprop(own X c ∗ bigSep Finset.univ fun p : Fin 3 × Fin 7 => out X c (origin c p.1 p.2) p.1) = ((c : Thread nD τ).loc main_v1 ↦{fullShare} Go X c : sProp 𝕄) :=
  (out_parts c (Go X c)).symm

end Cert.KernelIdeal.Gather
-- ==== Proof.Schedule.lean ====
/- The transfers' agreement: for every semaphore who pays it, how much, and what it hands over; the levels the waits are
   ordered by; and what a device still owes before each step.

   Each device's cells are used for one round.
   * The barrier is paid one unit by each of the three partners. The partner across the mask `μ` hands over the seven
     places on ITSELF that the owner's sends across `μ` fill: slots and result rows, with any contents. The owner waits for
     all three units before it sends.
   * A receive cell `(t, i)` is paid once, by the partner the transfer comes from, and hands over the place filled: a slot
     holding its origin's third, or the third of the result.
   * A send cell `(t, i)` is paid once, by the owner's own send, and hands back the share of the source.
   * A forward cell `(t, i)` is paid once, by the owner's copy of slot `i` to the result, and hands over the filled third of
     the result and the share of the slot.
   * The copy cell is paid once, by the owner's copy of its own block, and hands over the filled block of the result and the
     share of the staged block. -/
module

public import proofs.«01_k».proof.Proof.Regions

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A device's own transfer cells: the copy, the forwards, the sends, the receives. -/
abbrev DK : Type := Unit ⊕ (Fin 3 × Fin 3) ⊕ (Fin 3 × Fin 7) ⊕ (Fin 3 × Fin 7)
/-- A device's cells: the barrier and those. -/
abbrev CK : Type := Unit ⊕ DK

abbrev dCp : DK := .inl ()
abbrev dFwd (t i : Fin 3) : DK := .inr (.inl (t, i))
abbrev dSnd (t : Fin 3) (i : Fin 7) : DK := .inr (.inr (.inl (t, i)))
abbrev dRcv (t : Fin 3) (i : Fin 7) : DK := .inr (.inr (.inr (t, i)))
abbrev kBar : CK := .inl ()

/-- The semaphore of a transfer cell. -/
def dsem : DK → SemLoc sig
  | .inl _ => .dma cpS
  | .inr (.inl p) => .dma (fwdS p.1 p.2)
  | .inr (.inr (.inl p)) => .dma (sndS p.1 p.2)
  | .inr (.inr (.inr p)) => .dma (rcvS p.1 p.2)
/-- The semaphore of a cell. -/
def ksem : CK → SemLoc sig
  | .inl _ => .reg barS
  | .inr d => dsem d

/-- The number of a transfer cell's semaphore. -/
def dnum : DK → ℕ
  | .inl _ => 1
  | .inr (.inl p) => 2 + (3 * p.1.val + p.2.val)
  | .inr (.inr (.inl p)) => 11 + (7 * p.1.val + p.2.val)
  | .inr (.inr (.inr p)) => 32 + (7 * p.1.val + p.2.val)

/-- A transfer cell's semaphore is the one with the cell's number. -/
theorem dsem_num (d : DK) : ∃ q : DmaSem sig, dsem d = .dma q ∧ q.val = dnum d := by
  rcases d with _ | p | p | p
  · exact ⟨_, rfl, cpS_val⟩
  · exact ⟨_, rfl, fwdS_val p.1 p.2⟩
  · exact ⟨_, rfl, sndS_val p.1 p.2⟩
  · exact ⟨_, rfl, rcvS_val p.1 p.2⟩

/-- Different transfer cells have different numbers. -/
theorem dnum_inj : ∀ d d' : DK, dnum d = dnum d' → d = d' := by decide +kernel
/-- No transfer cell has the number zero, which is the window's. -/
theorem dnum_pos : ∀ d : DK, 0 < dnum d := by decide +kernel

/-- Different transfer cells have different semaphores. -/
theorem dsem_inj {d d' : DK} (h : dsem d = dsem d') : d = d' := by
  obtain ⟨q, hq, hn⟩ := dsem_num d
  obtain ⟨q', hq', hn'⟩ := dsem_num d'
  rw [hq, hq'] at h
  cases h
  exact dnum_inj _ _ (hn.symm.trans hn')

/-- No transfer cell has the barrier's semaphore. -/
theorem dsem_ne_bar (d : DK) : dsem d ≠ .reg barS := by
  obtain ⟨q, hq, -⟩ := dsem_num d
  rw [hq]; intro h; cases h

/-- Different kinds of cells have different semaphores. -/
theorem ksem_inj {k k' : CK} (h : ksem k = ksem k') : k = k' := by
  rcases k with _ | d <;> rcases k' with _ | d'
  · rfl
  · exact absurd h.symm (dsem_ne_bar d')
  · exact absurd h (dsem_ne_bar d)
  · exact congrArg _ (dsem_inj h)

/-- The cell `k` of device `c`. -/
abbrev kcell (ck : Dev nD × CK) : GSem nD τ sig := ((ck.1 : Thread nD τ), ksem ck.2)

/-- Different kinds on different devices are different cells. -/
theorem kcell_inj : Function.Injective (kcell : Dev nD × CK → GSem nD τ sig) := by
  rintro ⟨c, k⟩ ⟨c', k'⟩ h
  have h1 : c = c' := congrArg (fun g : GSem nD τ sig => g.1.1) h
  have h2 : k = k' := ksem_inj (congrArg Prod.snd h)
  rw [h1, h2]

/-- Which cell a semaphore is of, if any. -/
def kindOf (s : SemLoc sig) : Option CK := by
  classical exact if h : ∃ k, ksem k = s then some h.choose else none

/-- The kind of a cell can be read off its semaphore. -/
theorem kindOf_ksem (k : CK) : kindOf (ksem k) = some k := by
  have h : ∃ k', ksem k' = ksem k := ⟨k, rfl⟩
  unfold kindOf
  rw [dif_pos h]
  exact congrArg some (ksem_inj h.choose_spec)

/-! ## The payloads -/

variable (X : Dev nD → Blk F)

/-- The share of the source that the send `(t, i)` reads. -/
abbrev shr : Fin 7 → PosShare TreeShare
  | 0 => fullShare.right.left | 1 => fullShare.right.right.left | 2 => fullShare.right.left | 3 => fullShare.right.right.right
  | 4 => fullShare.right.right | 5 => fullShare.right | 6 => fullShare.right

/-- The share of the source that the send `(t, i)` of `c` reads, filled. -/
def srcPts (c : Dev nD) (t : Fin 3) : Fin 7 → sProp 𝕄
  | 0 => stg X c t fullShare.right.left | 1 => stg X c t fullShare.right.right.left | 2 => cm X c t 0 fullShare.right.left
  | 3 => stg X c t fullShare.right.right.right | 4 => cm X c t 0 fullShare.right.right | 5 => cm X c t 1 fullShare.right | 6 => cm X c t 2 fullShare.right

/-- The place on `c` the transfer `(t, i)` fills, with any contents. -/
def dU (c : Dev nD) (t : Fin 3) (i : Fin 7) : sProp 𝕄 := if h : i.val < 3 then cmU c t ⟨i.val, h⟩ else outU c (origin c t i) t
/-- The place on `c` the transfer `(t, i)` fills, filled. -/
def dF (c : Dev nD) (t : Fin 3) (i : Fin 7) : sProp 𝕄 := if h : i.val < 3 then cm X c t ⟨i.val, h⟩ fullShare else out X c (origin c t i) t

omit [FloatOps F] in
/-- The place that a transfer of the first two phases fills is a slot. -/
theorem dU_slot (c : Dev nD) (t i : Fin 3) : (dU c t (ix3 i) : sProp 𝕄) = cmU c t i := dif_pos i.isLt
omit [FloatOps F] in
/-- What a transfer of the first two phases leaves is the filled slot. -/
theorem dF_slot (c : Dev nD) (t i : Fin 3) : (dF X c t (ix3 i) : sProp 𝕄) = cm X c t i fullShare := dif_pos i.isLt
omit [FloatOps F] in
/-- The place that a transfer of the last phase fills is a third of the origin's rows in the result. -/
theorem dU_rows (c : Dev nD) (t : Fin 3) (i : Fin 4) : (dU c t (ix4 i) : sProp 𝕄) = outU c (origin c t (ix4 i)) t :=
  dif_neg (show ¬ i.val + 3 < 3 by omega)
omit [FloatOps F] in
/-- What a transfer of the last phase leaves is the filled third of the origin's rows in the result. -/
theorem dF_rows (c : Dev nD) (t : Fin 3) (i : Fin 4) : (dF X c t (ix4 i) : sProp 𝕄) = out X c (origin c t (ix4 i)) t :=
  dif_neg (show ¬ i.val + 3 < 3 by omega)

/-- What the partner across `μ` hands `c` at the barrier: the places on it that `c`'s sends across `μ` fill. -/
def barPay (c : Dev nD) (μ : Fin 3) : sProp 𝕄 := bigSep Finset.univ fun i : Fin 7 => dU (partner c μ) (μ - phase i) i

/-- What a cell of `c` hands over for a duty. -/
def kpay (c : Dev nD) : CK → Fin 3 → sProp 𝕄
  | .inl _, μ => barPay c μ
  | .inr (.inl _), _ => iprop(own X c ∗ stgW X c fullShare.left)
  | .inr (.inr (.inl p)), _ => iprop(out X c (origin c p.1 (ix3 p.2)) p.1 ∗ cm X c p.1 p.2 fullShare.left)
  | .inr (.inr (.inr (.inl p))), _ => srcPts X c p.1 p.2
  | .inr (.inr (.inr (.inr p))), _ => dF X c p.1 p.2

/-- The credit of a whole block. -/
def NB : ℕ := (stageW : Memref sig .tc .vmem S4096x1024 .bf16).view.dmaCredit
/-- The credit of a third of a block. -/
def NT (t : Fin 3) : ℕ := (stageM t).view.dmaCredit

/-- The units of one duty of a cell. -/
def kamt : CK → ℕ
  | .inl _ => 1
  | .inr (.inl _) => NB
  | .inr (.inr (.inl p)) => NT p.1
  | .inr (.inr (.inr (.inl p))) => NT p.1
  | .inr (.inr (.inr (.inr p))) => NT p.1

/-- No third is empty. -/
theorem third_pos : ∀ t : Fin 3, 0 < (Sm t).numel := by decide +kernel
/-- The copy of a third pays something. -/
theorem NT_pos (t : Fin 3) : 0 < NT t := View.dmaCredit_pos _ (third_pos t)
/-- The copy of a block pays something. -/
theorem NB_pos : 0 < NB := View.dmaCredit_pos _ (by decide +kernel)
/-- Every duty pays something. -/
theorem kamt_pos (k : CK) : 0 < kamt k := by
  rcases k with _ | _ | p | p | p
  · exact Nat.one_pos
  · exact NB_pos
  all_goals exact NT_pos p.1

/-- The duties of a cell: the barrier's three, one of any other. -/
def kdut : CK → Finset (Fin 3)
  | .inl _ => Finset.univ
  | .inr _ => {0}

/-- The agreement. -/
def gather : Rounds.Schedule (GSem nD τ sig) (Fin 3) 𝕄 where
  duties g r := if r = 0 ∧ g.1.2 = .tc then (match kindOf g.2 with | some k => kdut k | none => ∅) else ∅
  unitless _ := False
  amount g _ _ := match kindOf g.2 with | some k => kamt k | none => 1
  payload g _ d := match kindOf g.2 with | some k => kpay X g.1.1 k d | none => iprop(emp)
  amount_pos g _ _ _ := by
    cases kindOf g.2 with
    | none => exact Nat.one_pos
    | some k => exact kamt_pos k

section Storable
omit [FloatOps F]
instance srcPts_storable (c : Dev nD) (t : Fin 3) (i : Fin 7) : BI.Storable (upEmb : UEmb _ 𝕄) (srcPts X c t i) := by
  unfold srcPts; split <;> infer_instance
instance dU_storable (c : Dev nD) (t : Fin 3) (i : Fin 7) : BI.Storable (upEmb : UEmb _ 𝕄) (dU (F := F) c t i) := by
  unfold dU; split <;> infer_instance
instance dF_storable (c : Dev nD) (t : Fin 3) (i : Fin 7) : BI.Storable (upEmb : UEmb _ 𝕄) (dF X c t i) := by
  unfold dF; split <;> infer_instance
instance barPay_storable (c : Dev nD) (μ : Fin 3) : BI.Storable (upEmb : UEmb _ 𝕄) (barPay (F := F) c μ) := by
  unfold barPay; infer_instance
instance kpay_storable (c : Dev nD) (k : CK) (d : Fin 3) : BI.Storable (upEmb : UEmb _ 𝕄) (kpay X c k d) := by
  unfold kpay; split <;> infer_instance
instance gather_storable (g : GSem nD τ sig) (r : ℕ) (d : Fin 3) : BI.Storable (upEmb : UEmb _ 𝕄) ((gather X).payload g r d) := by
  show BI.Storable upEmb (match kindOf g.2 with | some k => kpay X g.1.1 k d | none => iprop(emp))
  split <;> infer_instance
end Storable

section Facts
omit [FloatOps F]

/-- The duties of a cell in its only round. -/
theorem duties_at (c : Dev nD) (k : CK) : (gather X).duties (kcell (c, k)) 0 = kdut k := by
  dsimp only [gather]; rw [if_pos ⟨rfl, rfl⟩, kindOf_ksem]
/-- No cell has duties after its first round. -/
theorem duties_later (g : GSem nD τ sig) : ∀ r, 1 ≤ r → (gather X).duties g r = ∅ := fun r hr => by
  dsimp only [gather]; rw [if_neg fun h => by omega]
/-- What a duty of a cell pays. -/
theorem amount_at (c : Dev nD) (k : CK) (d : Fin 3) : (gather X).amount (kcell (c, k)) 0 d = kamt k := by
  dsimp only [gather]; rw [kindOf_ksem]
/-- What a duty of a cell hands over. -/
theorem payload_at (c : Dev nD) (k : CK) (d : Fin 3) : (gather X).payload (kcell (c, k)) 0 d = kpay X c k d := by
  dsimp only [gather]; rw [kindOf_ksem]

/-- The barrier expects three units. -/
theorem expect_bar (c : Dev nD) : (gather X).expect (kcell (c, kBar)) 0 = 3 := by
  unfold Schedule.expect Schedule.amountOf
  rw [duties_at, Finset.sum_congr rfl fun d _ => amount_at X c kBar d]; rfl
/-- A transfer cell expects the amount of its one transfer. -/
theorem expect_at (c : Dev nD) (d : DK) : (gather X).expect (kcell (c, .inr d)) 0 = kamt (.inr d) := by
  unfold Schedule.expect Schedule.amountOf
  rw [duties_at, Finset.sum_congr rfl fun e _ => amount_at X c (.inr d) e]
  exact Finset.sum_singleton _ _

/-- All the barrier hands over. -/
theorem rest_bar (c : Dev nD) :
    bigSep ((gather X).duties (kcell (c, kBar)) 0 \ ∅) (fun d => (gather X).payload (kcell (c, kBar)) 0 d) = bigSep Finset.univ (barPay (F := F) c) := by
  rw [Finset.sdiff_empty, duties_at]
  exact bigSep_congr fun d _ => payload_at X c kBar d
/-- What a transfer cell hands over. -/
theorem rest_at (c : Dev nD) (d : DK) :
    bigSep ((gather X).duties (kcell (c, .inr d)) 0 \ ∅) (fun e => (gather X).payload (kcell (c, .inr d)) 0 e) = kpay X c (.inr d) 0 := by
  rw [Finset.sdiff_empty, duties_at, show kdut (.inr d) = {0} from rfl, bigSep_singleton, payload_at]

end Facts

/-! ## The levels and the debts -/

/-- A cell's level: a wait on one is allowed while only higher ones are owed. -/
def klev : CK → ℕ
  | .inl _ => 1
  | .inr (.inr (.inr (.inr p))) => 2 + (phase p.2).val
  | _ => 0

/-- The only index of a cell of a TensorCore. -/
def L (g : GSem nD τ sig) : Finset Unit := if g.1.2 = .tc then {()} else ∅
/-- The level of a semaphore. -/
def lv (g : GSem nD τ sig) (_ : Unit) : ℕ := match kindOf g.2 with | some k => klev k | none => 0

/-- Cells off the TensorCore have no index. -/
theorem L_of_ne (g : GSem nD τ sig) (h : g.1.2 ≠ .tc) : L g = ∅ := if_neg h
/-- A cell of the TensorCore has one index. -/
theorem L_tc (c : Dev nD) (s : SemLoc sig) : L ((c : Thread nD τ), s) = {()} := if_pos rfl
/-- The level of a cell is that of its kind. -/
theorem lv_at (c : Dev nD) (k : CK) : lv (kcell (c, k)) () = klev k := by unfold lv; rw [kindOf_ksem]

/-- The partner's cell a step pays, with the mask. -/
def pays : Act → Option (CK × Fin 3)
  | .signal μ => some (kBar, μ)
  | .sendC t i => some (.inr (dRcv t (ix3 i)), mu t (ix3 i))
  | .sendO t i => some (.inr (dRcv t (ix4 i)), mu t (ix4 i))
  | _ => none

/-- What a step pays. -/
def due (c : Dev nD) (a : Act) : CellTallies nD τ sig Unit :=
  match pays a with | some p => tallyAt (kcell (partner c p.2, p.1)) () (kamt p.1) | none => 0
/-- What the steps still to run pay. -/
def debt (c : Dev nD) : List Act → CellTallies nD τ sig Unit
  | [] => 0
  | a :: l => debt c l + due c a

/-- Every partner's cell the steps pay lies above a level. -/
def above (n : ℕ) (l : List Act) : Bool := l.all fun a => match pays a with | some p => decide (n < klev p.1) | none => true

/-- What is owed to a cell is owed by some step, to the cell of the partner that the step pays. -/
theorem debt_pos {c : Dev nD} {l : List Act} {g : GSem nD τ sig} {u : Unit} (h : 0 < debt c l g u) :
    ∃ a ∈ l, ∃ p, pays a = some p ∧ g = kcell (partner c p.2, p.1) := by
  induction l with
  | nil => exact absurd h (Nat.lt_irrefl 0)
  | cons a l ih =>
    rw [debt, Pi.add_apply, Finsupp.add_apply] at h
    by_cases h1 : 0 < debt c l g u
    · obtain ⟨b, hb, hp⟩ := ih h1
      exact ⟨b, List.mem_cons_of_mem _ hb, hp⟩
    · have h2 : 0 < due c a g u := by omega
      refine ⟨a, List.mem_cons_self, ?_⟩
      unfold due at h2
      cases hp : pays a with
      | none => rw [hp] at h2; exact absurd h2 (Nat.lt_irrefl 0)
      | some p =>
        rw [hp] at h2
        refine ⟨p, rfl, ?_⟩
        by_contra hne
        simp only [tallyAt_apply] at h2
        rw [if_neg (fun h' => hne h'.1)] at h2
        exact absurd h2 (Nat.lt_irrefl 0)

omit [FloatOps F] in
/-- A wait is allowed while all that is still owed lies above it. -/
theorem mayWait (c : Dev nD) (s : SemLoc sig) (n : ℕ) (hs : lv ((c : Thread nD τ), s) () ≤ n) (l : List Act) (h : above n l = true) :
    (levAts L lv : sProp 𝕄) ⊢ MayWait (c : Thread nD τ) s () (debt c l) := by
  refine MayOwe.of_cut (L := L) (lev := lv) n (fun p hp => by rw [Finset.mem_singleton.mp hp, L_tc]; exact Finset.mem_singleton_self _)
    (fun g u hg => by obtain ⟨a, -, p, -, rfl⟩ := debt_pos hg; exact Finset.mem_singleton_self _)
    (fun p hp => by rw [Finset.mem_singleton.mp hp]; exact hs) (fun g u hg => ?_)
  obtain ⟨a, ha, p, hp, rfl⟩ := debt_pos hg
  rw [lv_at]
  have := List.all_eq_true.mp h a ha
  rw [hp] at this
  exact of_decide_eq_true this

end Cert.KernelIdeal.Gather
-- ==== Proof.Items.lean ====
/- What a device holds between steps, as a set of named items: which items each step takes and gives, and the decided fact
   that the whole script runs from the first set to the last. -/
module

public import proofs.«01_k».proof.Proof.Schedule

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The items -/

/-- One thing a device may hold. -/
inductive Item where
  /-- the right to signal across a mask, with what the signal hands over -/
  | sg (μ : Fin 3)
  /-- the barrier before and after its wait -/
  | bar | barD
  /-- the input block beside the empty staging buffer; then the input block -/
  | raw | inp
  /-- the share of the staged block the copy of the own block reads -/
  | cpSrc
  /-- the place on the partner the send `(t, i)` fills -/
  | dst (t : Fin 3) (i : Fin 7)
  /-- the share of the slot the forward `(t, i)` reads -/
  | fwdSrc (t i : Fin 3)
  /-- the right to start a transfer -/
  | tk (d : DK)
  /-- a started transfer -/
  | cr (d : DK)
  /-- a transfer cell before and after its wait -/
  | ps (d : DK) | psD (d : DK)
  /-- what a transfer cell hands over -/
  | py (d : DK)
deriving DecidableEq

/-- The sends that read the slot `j` of a third. -/
abbrev readers : Fin 3 → Finset (Fin 7) | 0 => {2, 4} | 1 => {5} | 2 => {6}

/-- What a step takes. -/
def pre : Act → Finset Item
  | .signal μ => {.sg μ}
  | .waitBar => {.bar}
  | .fill => {.raw}
  | .copyOwn => {.cpSrc, .tk dCp}
  | .waitOwn => {.cr dCp, .ps dCp}
  | .sendC t i => {.py (dSnd t (ix3 i)), .dst t (ix3 i), .tk (dSnd t (ix3 i))}
  | .sendO t i => {.py (dSnd t (ix4 i)), .dst t (ix4 i), .tk (dSnd t (ix4 i))}
  | .recvC t i => {.cr (dRcv t (ix3 i)), .ps (dRcv t (ix3 i))}
  | .recvO t i => {.cr (dRcv t (ix4 i)), .ps (dRcv t (ix4 i))}
  | .drain t i => {.fwdSrc t i, .tk (dFwd t i)}
  | .waitDrain t i => {.cr (dFwd t i), .ps (dFwd t i)}
  | .waitSendC t i => {.cr (dSnd t (ix3 i)), .ps (dSnd t (ix3 i))}
  | .waitSendO t i => {.cr (dSnd t (ix4 i)), .ps (dSnd t (ix4 i))}

/-- All the places the sends fill. -/
abbrev dsts : Finset Item := Finset.univ.image fun p : Fin 3 × Fin 7 => .dst p.1 p.2
/-- The sources of the sends that read the staged block. -/
abbrev staged : Finset Item := (Finset.univ ×ˢ {0, 1, 3}).image fun p : Fin 3 × Fin 7 => .py (dSnd p.1 p.2)
/-- The sources of the sends that read a slot. -/
abbrev slotted (t j : Fin 3) : Finset Item := (readers j).image fun i => .py (dSnd t i)

/-- What a step gives. -/
def post : Act → Finset Item
  | .signal _ => ∅
  | .waitBar => insert .barD dsts
  | .fill => insert .inp (insert .cpSrc staged)
  | .copyOwn => {.cr dCp}
  | .waitOwn => {.psD dCp, .py dCp}
  | .sendC t i => {.cr (dSnd t (ix3 i))}
  | .sendO t i => {.cr (dSnd t (ix4 i))}
  | .recvC t i => insert (.psD (dRcv t (ix3 i))) (insert (.fwdSrc t i) (slotted t i))
  | .recvO t i => {.psD (dRcv t (ix4 i)), .py (dRcv t (ix4 i))}
  | .drain t i => {.cr (dFwd t i)}
  | .waitDrain t i => {.psD (dFwd t i), .py (dFwd t i)}
  | .waitSendC t i => {.psD (dSnd t (ix3 i)), .py (dSnd t (ix3 i))}
  | .waitSendO t i => {.psD (dSnd t (ix4 i)), .py (dSnd t (ix4 i))}

/-- The level of the cell a step waits on. -/
def wlev : Act → Option ℕ
  | .waitBar => some 1
  | .recvC _ i => some (2 + (phase (ix3 i)).val)
  | .recvO _ i => some (2 + (phase (ix4 i)).val)
  | .waitOwn | .waitDrain _ _ | .waitSendC _ _ | .waitSendO _ _ => some 0
  | _ => none
/-- A wait comes where all still owed lies above it. -/
def mayRun (a : Act) (l : List Act) : Bool := match wlev a with | some n => above n l | none => true

/-- The script runs from one set of items to another. -/
def RunsTo : Finset Item → List Act → Finset Item → Prop
  | S, [], S' => S = S'
  | S, a :: l, S' => pre a ⊆ S ∧ Disjoint (S \ pre a) (post a) ∧ mayRun a l = true ∧ RunsTo ((S \ pre a) ∪ post a) l S'

/-! ## Sets of items as numbers

A set of items is a number with a bit for each: whether the script runs is then decided by arithmetic. -/

/-- The bit of an item. -/
def bit : Item → ℕ
  | .sg μ => 16 * μ.val
  | .bar => 1 | .barD => 2 | .raw => 3 | .inp => 4 | .cpSrc => 5
  | .dst t i => 16 * dnum (dRcv t i) + 6
  | .fwdSrc t i => 16 * dnum (dFwd t i) + 7
  | .tk d => 16 * dnum d + 8
  | .cr d => 16 * dnum d + 9
  | .ps d => 16 * dnum d + 10
  | .psD d => 16 * dnum d + 11
  | .py d => 16 * dnum d + 12

/-- Different items have different numbers. -/
theorem bit_inj {x y : Item} (h : bit x = bit y) : x = y := by
  cases x <;> cases y <;> simp only [bit] at h <;> first
    | rfl
    | (exfalso; omega)
    | exact congrArg _ (Fin.ext (by omega))
    | exact congrArg _ (dnum_inj _ _ (by omega))
    | (have h' := dnum_inj _ _ (Nat.eq_of_mul_eq_mul_left (by decide : 0 < 16) (Nat.add_right_cancel h)); cases h'; rfl)

/-- The number of a list of items. -/
def num (l : List Item) : ℕ := l.foldr (fun x n => n ||| 2 ^ bit x) 0

/-- The mask of a list has an item's bit set just when the item is in the list. -/
theorem num_bit (l : List Item) (x : Item) : (num l).testBit (bit x) = true ↔ x ∈ l := by
  induction l with
  | nil => simp [num]
  | cons y l ih =>
    have : num (y :: l) = num l ||| 2 ^ bit y := rfl
    rw [this, Nat.testBit_or, Bool.or_eq_true, ih, Nat.testBit_two_pow, decide_eq_true_iff, List.mem_cons]
    exact ⟨fun h => h.elim .inr fun e => .inl (bit_inj e.symm), fun h => h.elim (fun e => .inr (e ▸ rfl)) .inl⟩

/-- A number stands for a set. -/
def Stands (n : ℕ) (S : Finset Item) : Prop := ∀ x, n.testBit (bit x) = true ↔ x ∈ S

/-- The mask of a list stands for the list's set of items. -/
theorem stands_num (l : List Item) : Stands (num l) l.toFinset := fun x => (num_bit l x).trans List.mem_toFinset.symm

/-- What a step takes, listed. -/
def preL : Act → List Item
  | .signal μ => [.sg μ]
  | .waitBar => [.bar]
  | .fill => [.raw]
  | .copyOwn => [.cpSrc, .tk dCp]
  | .waitOwn => [.cr dCp, .ps dCp]
  | .sendC t i => [.py (dSnd t (ix3 i)), .dst t (ix3 i), .tk (dSnd t (ix3 i))]
  | .sendO t i => [.py (dSnd t (ix4 i)), .dst t (ix4 i), .tk (dSnd t (ix4 i))]
  | .recvC t i => [.cr (dRcv t (ix3 i)), .ps (dRcv t (ix3 i))]
  | .recvO t i => [.cr (dRcv t (ix4 i)), .ps (dRcv t (ix4 i))]
  | .drain t i => [.fwdSrc t i, .tk (dFwd t i)]
  | .waitDrain t i => [.cr (dFwd t i), .ps (dFwd t i)]
  | .waitSendC t i => [.cr (dSnd t (ix3 i)), .ps (dSnd t (ix3 i))]
  | .waitSendO t i => [.cr (dSnd t (ix4 i)), .ps (dSnd t (ix4 i))]

/-- Pairs of a third and a number, listed. -/
abbrev pairs {n : ℕ} (l : List (Fin n)) : List (Fin 3 × Fin n) := (List.finRange 3).product l
abbrev dstsL : List Item := (pairs (List.finRange 7)).map fun p => .dst p.1 p.2
abbrev stagedL : List Item := (pairs [0, 1, 3]).map fun p : Fin 3 × Fin 7 => .py (dSnd p.1 p.2)
abbrev readersL : Fin 3 → List (Fin 7) | 0 => [2, 4] | 1 => [5] | 2 => [6]
abbrev slottedL (t j : Fin 3) : List Item := (readersL j).map fun i => .py (dSnd t i)

/-- What a step gives, listed. -/
def postL : Act → List Item
  | .signal _ => []
  | .waitBar => .barD :: dstsL
  | .fill => .inp :: .cpSrc :: stagedL
  | .copyOwn => [.cr dCp]
  | .waitOwn => [.psD dCp, .py dCp]
  | .sendC t i => [.cr (dSnd t (ix3 i))]
  | .sendO t i => [.cr (dSnd t (ix4 i))]
  | .recvC t i => .psD (dRcv t (ix3 i)) :: .fwdSrc t i :: slottedL t i
  | .recvO t i => [.psD (dRcv t (ix4 i)), .py (dRcv t (ix4 i))]
  | .drain t i => [.cr (dFwd t i)]
  | .waitDrain t i => [.psD (dFwd t i), .py (dFwd t i)]
  | .waitSendC t i => [.psD (dSnd t (ix3 i)), .py (dSnd t (ix3 i))]
  | .waitSendO t i => [.psD (dSnd t (ix4 i)), .py (dSnd t (ix4 i))]

/-- The listed places that the sends fill are all of them. -/
theorem dsts_eq : dstsL.toFinset = dsts := by decide +kernel
/-- The listed shares of the staged block are all of them. -/
theorem staged_eq : stagedL.toFinset = staged := by decide +kernel
/-- The listed shares of a slot are all of them. -/
theorem slotted_eq : ∀ t j, (slottedL t j).toFinset = slotted t j := by decide +kernel

/-- The list of what a step takes holds the items that the step takes. -/
theorem pre_eq (a : Act) : (preL a).toFinset = pre a := by
  cases a <;> rfl
/-- The list of what a step gives holds the items that the step gives. -/
theorem post_eq (a : Act) : (postL a).toFinset = post a := by
  cases a with
  | waitBar => rw [show post .waitBar = insert .barD dsts from rfl, ← dsts_eq]; exact List.toFinset_cons
  | fill => rw [show post .fill = insert .inp (insert .cpSrc staged) from rfl, ← staged_eq]; exact List.toFinset_cons.trans (congrArg _ List.toFinset_cons)
  | recvC t i =>
    rw [show post (.recvC t i) = insert (.psD (dRcv t (ix3 i))) (insert (.fwdSrc t i) (slotted t i)) from rfl, ← slotted_eq]
    exact List.toFinset_cons.trans (congrArg _ List.toFinset_cons)
  | _ => rfl

/-- The run on numbers. -/
def runsNum : ℕ → List Act → ℕ → Bool
  | n, [], n' => n.beq n'
  | n, a :: l, n' => (n &&& num (preL a)).beq (num (preL a)) && (((n ^^^ num (preL a)) &&& num (postL a)).beq 0 && (mayRun a l
      && runsNum ((n ^^^ num (preL a)) ||| num (postL a)) l n'))

/-- A run on numbers is a run on the sets they stand for. -/
theorem runs_of_num {l : List Act} : ∀ {n n' : ℕ} {S S' : Finset Item}, Stands n S → Stands n' S' → runsNum n l n' = true → RunsTo S l S' := by
  induction l with
  | nil =>
    intro n n' S S' h h' hr
    have : n = n' := Nat.eq_of_beq_eq_true hr
    subst this
    exact Finset.ext fun x => (h x).symm.trans (h' x)
  | cons a l ih =>
    intro n n' S S' h h' hr
    rw [runsNum, Bool.and_eq_true, Bool.and_eq_true, Bool.and_eq_true] at hr
    obtain ⟨h1, h2, h3, h4⟩ := hr
    have h1 := Nat.eq_of_beq_eq_true h1
    have h2 := Nat.eq_of_beq_eq_true h2
    have hp : Stands (num (preL a)) (pre a) := pre_eq a ▸ stands_num _
    have hq : Stands (num (postL a)) (post a) := post_eq a ▸ stands_num _
    have hsub : pre a ⊆ S := fun x hx => by
      have := congrArg (fun k => k.testBit (bit x)) h1
      rw [Nat.testBit_and, (hp x).mpr hx, Bool.and_true] at this
      exact (h x).mp this
    have hd : Stands (n ^^^ num (preL a)) (S \ pre a) := fun x => by
      rw [Nat.testBit_xor, Finset.mem_sdiff, ← h x, ← hp x]
      have hi : (num (preL a)).testBit (bit x) = true → n.testBit (bit x) = true := fun hx => (h x).mpr (hsub ((hp x).mp hx))
      revert hi
      cases n.testBit (bit x) <;> cases (num (preL a)).testBit (bit x) <;> simp
    refine ⟨hsub, Finset.disjoint_left.mpr fun x hx hx' => ?_, h3, ih (fun x => ?_) h' h4⟩
    · have := congrArg (fun k => k.testBit (bit x)) h2
      rw [Nat.testBit_and, (hd x).mpr hx, (hq x).mpr hx', Nat.zero_testBit] at this
      exact absurd this (by decide)
    · rw [Nat.testBit_or, Bool.or_eq_true, hd x, hq x, Finset.mem_union]

/-! ## The whole script -/

/-- The transfer cells, listed. -/
abbrev startedL : List DK := dCp :: ((pairs (List.finRange 3)).map (fun p => dFwd p.1 p.2) ++ (pairs (List.finRange 7)).map fun p => dSnd p.1 p.2)
abbrev receivedL : List DK := (pairs (List.finRange 7)).map fun p => dRcv p.1 p.2
abbrev rowsL : List DK := (pairs (List.finRange 4)).map fun p => dRcv p.1 (ix4 p.2)

/-- What a device holds at the start, listed, -/
def firstL : List Item := [.bar, .raw] ++ ([.sg 0, .sg 1, .sg 2] ++ (startedL.map .tk ++ ((startedL ++ receivedL).map .ps ++ receivedL.map .cr)))
/-- and at the end. -/
def lastL : List Item := [.barD, .inp] ++ ((startedL ++ receivedL).map .psD ++ (startedL ++ rowsL).map .py)

/-- The script runs from the first to the last. -/
theorem script_runs : RunsTo firstL.toFinset script lastL.toFinset :=
  runs_of_num (stands_num _) (stands_num _) (by decide +kernel)

end Cert.KernelIdeal.Gather
-- ==== Proof.Steps.lean ====
/- What each item is, and that each step of the kernel, run from the items it takes, leaves the items it gives. -/
module

public import proofs.«01_k».proof.Proof.Items
public import Idealize.ShloMosaic.Lib.Pipeline.Value

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c` ends with `Q`. -/
abbrev runsWell (c : Dev nD) (p : Prog (Eff F) PUnit) (Q : PUnit → sProp 𝕄) : sProp 𝕄 :=
  wp frame (wpE (defs₀ (F := F)) 𝒱₀ (c : Thread nD τ) none) Set.univ p Q

variable (X : Dev nD → Blk F) (K : Dev nD × CK → ℕ)

/-! ## Separating conjunctions over sets -/

section Sets
omit [FloatOps F]
variable {I : Type} [DecidableEq I]

/-- One more. -/
theorem sep_insert {i : I} {s : Finset I} (h : i ∉ s) (Φ : I → sProp 𝕄) : bigSep (insert i s) Φ = iprop(Φ i ∗ bigSep s Φ) := bigSep_insert h
/-- Two sets. -/
theorem sep_union {s t : Finset I} (h : Disjoint s t) (Φ : I → sProp 𝕄) : bigSep (s ∪ t) Φ = iprop(bigSep s Φ ∗ bigSep t Φ) := bigSep_union h
/-- A part and the rest. -/
theorem sep_part {s t : Finset I} (h : t ⊆ s) (Φ : I → sProp 𝕄) : bigSep s Φ = iprop(bigSep t Φ ∗ bigSep (s \ t) Φ) := bigSep_sdiff_split h
/-- Two. -/
theorem sep_two {a b : I} (h : a ≠ b) (Φ : I → sProp 𝕄) : bigSep {a, b} Φ = iprop(Φ a ∗ Φ b) := by
  rw [sep_insert (by rw [Finset.mem_singleton]; exact h), bigSep_singleton]
/-- Three. -/
theorem sep_three {a b d : I} (h : a ≠ b) (h' : a ≠ d) (h'' : b ≠ d) (Φ : I → sProp 𝕄) : bigSep {a, b, d} Φ = iprop(Φ a ∗ Φ b ∗ Φ d) := by
  rw [sep_insert (by rw [Finset.mem_insert, Finset.mem_singleton]; exact fun e => e.elim h h'), sep_two h'']
end Sets

/-! ## The shared facts -/

/-- Every cell's invariant, and that every cell has begun its round. -/
def recs : sProp 𝕄 :=
  iprop((bigSep Finset.univ fun ck : Dev nD × CK => cellInv ER (gather X) (K ck) (kcell ck)) ∗ bigSep Finset.univ fun ck : Dev nD × CK => reached ER (kcell ck) 0)

instance recs_persistent : BI.Persistent (recs X K) := by unfold recs; infer_instance

omit [FloatOps F] in
/-- The records hold every cell's invariant. -/
theorem inv_at (ck : Dev nD × CK) : (recs X K : sProp 𝕄) ⊢ cellInv ER (gather X) (K ck) (kcell ck) := by
  have h : (bigSep Finset.univ fun ck : Dev nD × CK => (cellInv ER (gather X) (K ck) (kcell ck) : sProp 𝕄)) ⊢ cellInv ER (gather X) (K ck) (kcell ck) :=
    by classical exact bigSep_elim (Finset.mem_univ ck)
  unfold recs; iintro ⟨H, -⟩; iapply h; iexact H
omit [FloatOps F] in
/-- The records hold that every cell has reached its only round. -/
theorem reached_at (ck : Dev nD × CK) : (recs X K : sProp 𝕄) ⊢ reached ER (kcell ck) 0 := by
  have h : (bigSep Finset.univ fun ck : Dev nD × CK => (reached ER (kcell ck) 0 : sProp 𝕄)) ⊢ reached ER (kcell ck) 0 := by classical exact bigSep_elim (Finset.mem_univ ck)
  unfold recs; iintro ⟨-, H⟩; iapply h; iexact H

/-! ## The items -/

/-- The input block of `c`. -/
def inpPts (c : Dev nD) : sProp 𝕄 := (c : Thread nD τ).loc cc0_stg0_0 ↦{fullShare} X c

/-- The right to start a transfer: its duties, and the place a local copy fills. -/
def tkPts (c : Dev nD) : DK → sProp 𝕄
  | .inl _ => iprop(dutyTok ER (kcell (c, .inr dCp)) 0 0 ∗ ownU c)
  | .inr (.inl p) => iprop(dutyTok ER (kcell (c, .inr (dFwd p.1 p.2))) 0 0 ∗ outU c (origin c p.1 (ix3 p.2)) p.1)
  | .inr (.inr (.inl p)) => iprop(dutyTok ER (kcell (c, .inr (dSnd p.1 p.2))) 0 0
      ∗ dutyTok ER (kcell (partner c (mu p.1 p.2), .inr (dRcv p.1 p.2))) 0 0)
  | .inr (.inr (.inr _)) => iprop(emp)

/-- What each item is. -/
def it (c : Dev nD) : Item → sProp 𝕄
  | .sg μ => iprop(dutyTok ER (kcell (partner c μ, kBar)) 0 μ ∗ barPay (partner c μ) μ)
  | .bar => iprop(cred (tallyAt (kcell (c, kBar)) () 3) ∗ atPos ER (kcell (c, kBar)) 0 ∅ 0)
  | .barD => atPos ER (kcell (c, kBar)) 1 ∅ 0
  | .raw => iprop(inpPts X c ∗ ∃ f, (c : Thread nD τ).loc cc0_scratch0 ↦{fullShare} f)
  | .inp => inpPts X c
  | .cpSrc => stgW X c fullShare.left
  | .dst t i => dU (partner c (mu t i)) t i
  | .fwdSrc t i => cm X c t i fullShare.left
  | .tk d => tkPts c d
  | .cr d => cred (tallyAt (kcell (c, .inr d)) () (kamt (.inr d)))
  | .ps d => atPos ER (kcell (c, .inr d)) 0 ∅ 0
  | .psD d => atPos ER (kcell (c, .inr d)) 1 ∅ 0
  | .py d => kpay X c (.inr d) 0

/-! ## Steps -/

/-- What is owed after the steps `l`, whatever has been waited for. -/
def owing (c : Dev nD) (l : List Act) : sProp 𝕄 := iprop(∃ W, owes (c : Thread nD τ) (debt c l) W)

/-- A step that pays no partner leaves the debt as it is. -/
theorem debt_free (c : Dev nD) {a : Act} (h : pays a = none) (l : List Act) : debt c (a :: l) = debt c l := by
  rw [debt, due, h]; exact add_zero _
/-- A step that pays a partner's cell owes that amount besides what the later steps owe. -/
theorem debt_pays (c : Dev nD) {a : Act} {p : CK × Fin 3} (h : pays a = some p) (l : List Act) :
    debt c (a :: l) = debt c l + tallyAt (kcell (partner c p.2, p.1)) () (kamt p.1) := by
  rw [debt, due, h]

/-- A step is sound before the steps `l`: from what it takes, it leaves what it gives. -/
def Sound (c : Dev nD) (a : Act) (l : List Act) : Prop :=
  ∀ (k : PUnit → Prog (Eff F) PUnit) (Q : PUnit → sProp 𝕄),
    iprop(recs X K ∗ levAts L lv ∗ bigSep (pre a) (it X c) ∗ owing c (a :: l))
      ⊢ iprop(((bigSep (post a) (it X c) ∗ owing c l) -∗ runsWell c (k ⟨⟩) Q) -∗ runsWell c ((act c a).bind k) Q)

/-! ### Waits -/

/-- A wait on a transfer cell: the started transfer and the cell's position become the position after and the handover. -/
theorem wait_cell (c : Dev nD) (d : DK) (l : List Act) (h : above (klev (.inr d)) l = true) {w : Eff F PUnit} {n : ℕ}
    (hw : ∀ R : PUnit → sProp 𝕄, wpE (defs₀ (F := F)) 𝒱₀ (c : Thread nD τ) none Set.univ w R = waitSpec (c : Thread nD τ) Set.univ (dsem d) n R)
    (hn : n = kamt (.inr d)) (k : PUnit → Prog (Eff F) PUnit) (Q : PUnit → sProp 𝕄) :
    iprop(recs X K ∗ levAts L lv ∗ (cred (tallyAt (kcell (c, .inr d)) () (kamt (.inr d))) ∗ atPos ER (kcell (c, .inr d)) 0 ∅ 0) ∗ owing c l)
      ⊢ iprop((((atPos ER (kcell (c, .inr d)) 1 ∅ 0 ∗ kpay X c (.inr d) 0) ∗ owing c l) -∗ runsWell c (k ⟨⟩) Q) -∗ runsWell c (.op w k) Q) := by
  subst hn
  unfold owing
  iintro ⟨#HR, #HL, ⟨Hc, Hp⟩, ⟨%W, HO⟩⟩ Hk
  iapply (Rounds.wp_wait_rest_token 𝒱₀ ER (gather X) (c : Thread nD τ) none (κ := K (c, .inr d)) hw (Set.mem_univ _) ()
    (O := debt c l) (W := W) (R := 0) (m := 0) (T := ∅) (by rw [Nat.zero_add]; exact (expect_at X c d).symm)) $$ [Hc HO Hp]
  · isplitr; · iapply (inv_at X K (c, .inr d)); iexact HR
    isplitl [Hc]; · iexact Hc
    isplitl [HO]; · iexact HO
    isplitr; · iapply (mayWait (F := F) c (dsem d) (klev (.inr d)) (le_of_eq (lv_at c (.inr d))) l h); iexact HL
    iexact Hp
  iintro ⟨HO, Hp, -, Hpay⟩
  iapply Hk
  isplitl [Hp Hpay]
  · isplitl [Hp]; · iexact Hp
    iapply (Entails.of_eq (rest_at X c d)); iexact Hpay
  iexists _; iexact HO

/-- The same as a step. -/
theorem sound_wait (c : Dev nD) (a : Act) (d : DK) (l : List Act) (h : above (klev (.inr d)) l = true) (hp : pays a = none)
    (hpre : pre a = {.cr d, .ps d}) (hpost : bigSep (post a) (it X c) = iprop(it X c (.psD d) ∗ it X c (.py d)))
    {w : Eff F PUnit} {n : ℕ} (ha : act c a = .op w .ret)
    (hw : ∀ R : PUnit → sProp 𝕄, wpE (defs₀ (F := F)) 𝒱₀ (c : Thread nD τ) none Set.univ w R = waitSpec (c : Thread nD τ) Set.univ (dsem d) n R)
    (hn : n = kamt (.inr d)) : Sound X K c a l := by
  intro k Q
  have ho : (owing c (a :: l) : sProp 𝕄) = owing c l := by unfold owing; rw [debt_free c hp]
  rw [hpre, sep_two (by intro e; cases e), hpost, ho, ha]
  exact wait_cell X K c d l h hw hn k Q

/-- The two items that a finished transfer gives, one by one. -/
theorem sep_done (c : Dev nD) (d : DK) : bigSep {Item.psD d, Item.py d} (it X c) = iprop(it X c (.psD d) ∗ it X c (.py d)) :=
  sep_two (by intro e; cases e) _

/-- The mask of a transfer less its phase is its third. -/
theorem mu_sub : ∀ p : Fin 3 × Fin 7, mu p.1 p.2 - phase p.2 = p.1 := by decide
/-- The third that takes a given mask in the phase of a transfer. -/
theorem mu_add : ∀ p : Fin 3 × Fin 7, mu (p.1 - phase p.2) p.2 = p.1 := by decide

omit [FloatOps F] in
/-- What the three partners hand over is the places all the sends fill. -/
theorem handover (c : Dev nD) : bigSep Finset.univ (barPay (F := F) c) = bigSep dsts (it X c) := by
  rw [dsts, bigSep_image_of_injOn (fun p _ q _ h => by cases p; cases q; cases h; rfl)]
  unfold barPay
  rw [← bigSep_univ_prod (fun p : Fin 3 × Fin 7 => (dU (partner c p.1) (p.1 - phase p.2) p.2 : sProp 𝕄)), bigSep_univ_equiv (⟨fun p => (mu p.1 p.2, p.2), fun p => (p.1 - phase p.2, p.2),
    fun p => Prod.ext (mu_sub p) rfl, fun p => Prod.ext (mu_add p) rfl⟩ : Fin 3 × Fin 7 ≃ Fin 3 × Fin 7)]
  refine bigSep_congr fun p _ => ?_
  show dU (partner c (mu p.1 p.2)) (mu p.1 p.2 - phase p.2) p.2 = dU (partner c (mu p.1 p.2)) p.1 p.2
  rw [mu_sub]

/-- The barrier's wait. -/
theorem sound_waitBar (c : Dev nD) (l : List Act) (h : above 1 l = true) : Sound X K c .waitBar l := by
  intro k Q
  have ho : (owing c (.waitBar :: l) : sProp 𝕄) = owing c l := by unfold owing; rw [debt_free c rfl]
  rw [show pre .waitBar = {.bar} from rfl, bigSep_singleton, ho]
  simp only [owing, it]
  iintro ⟨#HR, #HL, ⟨Hc, Hp⟩, ⟨%W, HO⟩⟩ Hk
  simp only [act, semWaitWord, Prog.lift, Prog.bind_op, Prog.bind_ret]
  iapply (Rounds.wp_wait_rest_token 𝒱₀ ER (gather X) (c : Thread nD τ) none (κ := K (c, kBar)) (wpE_semWait_eq 𝒱₀ (c : Thread nD τ) none Set.univ) (Set.mem_univ _) ()
    (O := debt c l) (W := W) (R := 0) (m := 0) (T := ∅) (by rw [Nat.zero_add]; exact (expect_bar X c).symm)) $$ [Hc HO Hp]
  · isplitr; · iapply (inv_at X K (c, kBar)); iexact HR
    isplitl [Hc]; · iexact Hc
    isplitl [HO]; · iexact HO
    isplitr; · iapply (mayWait (F := F) c (.reg barS) 1 (le_of_eq (lv_at c kBar)) l h); iexact HL
    iexact Hp
  iintro ⟨HO, Hp, -, Hpay⟩
  iapply Hk
  isplitl [Hp Hpay]
  · rw [show post .waitBar = insert .barD dsts from rfl, sep_insert (by decide)]
    simp only [it]
    isplitl [Hp]; · iexact Hp
    iapply (Entails.of_eq ((rest_bar X c).trans (handover X c))); iexact Hpay
  iexists _; iexact HO

omit [FloatOps F] in
/-- The barrier's duties are all three. -/
theorem bar_mem (c : Dev nD) (μ : Fin 3) : μ ∈ (gather X).duties (kcell (c, kBar)) 0 := by
  rw [duties_at X c kBar]; exact Finset.mem_univ _

/-- A signal to a partner: its duty at the partner's barrier, with what it hands over, pays one unit. -/
theorem sound_signal (c : Dev nD) (μ : Fin 3) (l : List Act) : Sound X K c (.signal μ) l := by
  intro k Q
  rw [show pre (.signal μ) = {.sg μ} from rfl, bigSep_singleton, show post (.signal μ) = ∅ from rfl, bigSep_empty]
  simp only [owing, it, act]
  have hn : (⟨sigDev c μ, sigDev_lt c μ⟩ : Dev nD) = partner c μ := Fin.ext (sigDev_eq c μ)
  generalize (⟨sigDev c μ, sigDev_lt c μ⟩ : Dev nD) = n at hn
  subst hn
  rw [debt_pays c (a := .signal μ) rfl]
  iintro ⟨#HR, -, ⟨Ht, Hp⟩, ⟨%W, HO⟩⟩ Hk
  simp only [semSignalWord, Prog.lift, Prog.bind_op, Prog.bind_ret]
  iapply (Rounds.wp_signal 𝒱₀ ER (gather X) (c : Thread nD τ) none (dst := (partner c μ : Thread nD τ)) (κ := K (partner c μ, kBar)) (d := μ)
    (bar_mem X (partner c μ) μ) (amount_at X (partner c μ) kBar μ) () (debt c l) rfl) $$ [HO Ht Hp]
  · isplitr; · iapply (inv_at X K (partner c μ, kBar)); iexact HR
    isplitl [HO]; · iexact HO
    isplitl [Ht]; · iexact Ht
    isplitl [Hp]; · iapply (show barPay (partner c μ) μ ⊢ (gather X).payload ((partner c μ : Thread nD τ), .reg barS) 0 μ from Entails.of_eq (payload_at X (partner c μ) kBar μ).symm); iexact Hp
    iapply (reached_at X K (partner c μ, kBar)); iexact HR
  iintro HO
  iapply Hk
  isplitr
  · iempintro
  iexists _; iexact HO

/-! ### Copies -/

omit [FloatOps F] in
/-- A transfer cell has its one duty. -/
theorem zero_mem (c : Dev nD) (d : DK) : 0 ∈ (gather X).duties (kcell (c, .inr d)) 0 := by
  rw [duties_at X c (.inr d)]; exact Finset.mem_singleton_self _

/-- A local copy on a transfer cell: the source's share and the place to fill become the started transfer. -/
theorem copy_cell (c : Dev nD) (d : DK) {s : Shape} {sp sp' : Space} (src : Memref sig .tc sp s .bf16) (dst : Memref sig .tc sp' s .bf16)
    (f : Buf (Elt F) (src.view.loc (c : Thread nD τ))) (G : Buf (Elt F) (dst.view.loc (c : Thread nD τ))) (q : PosShare TreeShare)
    (hread : src.view.read (Elt F) f = dst.view.read (Elt F) G) (hN : dst.view.amount (dsem d) = kamt (.inr d))
    (hpay : kpay X c (.inr d) 0 = iprop((dst.view.loc (c : Thread nD τ) ↦[dst.view.set]{fullShare} G) ∗ (src.view.loc (c : Thread nD τ) ↦[src.view.set]{q} f)))
    (hsrc : src.view.WordExact) (hdst : dst.view.WordExact) (hsem : DmaTarget.Typed (nD := nD) (p := (c : Thread nD τ).2) sp (dsem d) (.here dst))
    (k : PUnit → Prog (Eff F) PUnit) (Q : PUnit → sProp 𝕄) :
    iprop(recs X K ∗ (src.view.loc (c : Thread nD τ) ↦[src.view.set]{q} f)
        ∗ (∃ g, dst.view.loc (c : Thread nD τ) ↦[dst.view.set]{fullShare} g) ∗ dutyTok ER (kcell (c, .inr d)) 0 0)
      ⊢ iprop((cred (tallyAt (kcell (c, .inr d)) () (kamt (.inr d))) -∗ runsWell c (k ⟨⟩) Q)
          -∗ runsWell c (.op (.enqueueDma src (.here dst) (dsem d) hsrc hdst hsem) k) Q) := by
  iintro ⟨#HR, Hs, ⟨%g, Hd⟩, Ht⟩ Hk
  iapply (Rounds.wp_copy_pointsTo 𝒱₀ ER (gather X) (c : Thread nD τ) none (κ := K (c, .inr d)) (r := 0) (d := 0)
    (zero_mem X c d) () (kamt (.inr d)) hN (amount_at X c (.inr d) 0)
    (by rw [payload_at X c (.inr d) 0, hpay, hread, pointsTo_congr (write_on dst.view g G)])) $$ [Hs Hd Ht]
  · isplitr; · iapply (inv_at X K (c, .inr d)); iexact HR
    isplitl [Hs]; · iexact Hs
    isplitl [Hd]; · iexact Hd
    isplitl [Ht]; · iexact Ht
    iapply (reached_at X K (c, .inr d)); iexact HR
  iexact Hk

omit [FloatOps F] in
/-- A third of the result named by an offset, empty, filled, and read. -/
theorem outU_off (c o : Dev nD) (t : Fin 3) (off : Fin 2 → ℕ) (h) (ho : off = ![4096 * o.val + row0 t, 0]) :
    (outU c o t : sProp 𝕄) = iprop(∃ f, (outM t off h).view.loc (c : Thread nD τ) ↦[(outM t off h).view.set]{fullShare} f) := by subst ho; rfl
omit [FloatOps F] in
/-- A filled third of the result, at an offset that names the same rows. -/
theorem out_off (c o : Dev nD) (t : Fin 3) (off : Fin 2 → ℕ) (h) (ho : off = ![4096 * o.val + row0 t, 0]) :
    (out X c o t : sProp 𝕄) = iprop((outM t off h).view.loc (c : Thread nD τ) ↦[(outM t off h).view.set]{fullShare} Go X c) := by subst ho; rfl
omit [FloatOps F] in
/-- What a filled third of the result reads, at an offset that names the same rows. -/
theorem read_off (c o : Dev nD) (t : Fin 3) (off : Fin 2 → ℕ) (h) (ho : off = ![4096 * o.val + row0 t, 0]) :
    (outM t off h).view.read (Elt F) (Go X c) = third X o t := by subst ho; exact read_out X c o t

/-- The copy of a slot to the result. -/
theorem sound_drain (c : Dev nD) (t i : Fin 3) (l : List Act) : Sound X K c (.drain t i) l := by
  intro k Q
  have ho : (owing c (.drain t i :: l) : sProp 𝕄) = owing c l := by unfold owing; rw [debt_free c rfl]
  have h := recvOff_eq c t (ix3 i)
  rw [show pre (.drain t i) = {.fwdSrc t i, .tk (dFwd t i)} from rfl, sep_two (by intro e; cases e), show post (.drain t i) = {.cr (dFwd t i)} from rfl,
    bigSep_singleton, ho]
  simp only [it, tkPts, cm]
  rw [outU_off c _ t _ (recv_inb c t (ix3 i)) h]
  iintro ⟨#HR, -, ⟨Hs, Ht, Hd⟩, HO⟩ Hk
  iapply (copy_cell X K c (dFwd t i) (commM t i) (outM t (recvOff c t (ix3 i)) (recv_inb c t (ix3 i))) (Cm X c) (Go X c) fullShare.left
    ((read_comm X c t i).trans (read_off X c _ t _ _ h).symm) rfl
    (by show iprop(out X c (origin c t (ix3 i)) t ∗ cm X c t i fullShare.left) = _; rw [out_off X c _ t _ (recv_inb c t (ix3 i)) h]; rfl)) $$ [Hs Hd Ht]
  · isplitr; · iexact HR
    isplitl [Hs]; · iexact Hs
    isplitl [Hd]; · iexact Hd
    iexact Ht
  iintro Hc
  iapply Hk
  isplitl [Hc]; · iexact Hc
  iexact HO

omit [FloatOps F] in
/-- The own block of the result named by an offset. -/
theorem ownU_off (c : Dev nD) (off : Fin 2 → ℕ) (h) (ho : off = ![4096 * c.val, 0]) :
    (ownU c : sProp 𝕄) = iprop(∃ f, (ownM off h).view.loc (c : Thread nD τ) ↦[(ownM off h).view.set]{fullShare} f) := by subst ho; rfl
omit [FloatOps F] in
/-- The filled own block of the result, at an offset that names the same rows. -/
theorem own_off (c : Dev nD) (off : Fin 2 → ℕ) (h) (ho : off = ![4096 * c.val, 0]) :
    (own X c : sProp 𝕄) = iprop((ownM off h).view.loc (c : Thread nD τ) ↦[(ownM off h).view.set]{fullShare} Go X c) := by subst ho; rfl
omit [FloatOps F] in
/-- The own block of the result reads as the staged block, at an offset that names the same rows. -/
theorem readown_off (c : Dev nD) (off : Fin 2 → ℕ) (h) (ho : off = ![4096 * c.val, 0]) :
    (ownM off h).view.read (Elt F) (Go X c) = stageW.view.read (Elt F) (Sg X c) := by subst ho; exact read_own X c c

/-- The copy of the own block to the result. -/
theorem sound_copyOwn (c : Dev nD) (l : List Act) : Sound X K c .copyOwn l := by
  intro k Q
  have ho : (owing c (.copyOwn :: l) : sProp 𝕄) = owing c l := by unfold owing; rw [debt_free c rfl]
  have h := k0_off1_eq c
  rw [show pre .copyOwn = {.cpSrc, .tk dCp} from rfl, sep_two (by intro e; cases e), show post .copyOwn = {.cr dCp} from rfl, bigSep_singleton, ho]
  simp only [it, tkPts, stgW]
  rw [ownU_off c _ (k0_off1_inb c) h]
  iintro ⟨#HR, -, ⟨Hs, Ht, Hd⟩, HO⟩ Hk
  iapply (copy_cell X K c dCp stageW (ownM (k0_off1 c) (k0_off1_inb c)) (Sg X c) (Go X c) fullShare.left
    (readown_off X c _ _ h).symm rfl
    (by show iprop(own X c ∗ stgW X c fullShare.left) = _; rw [own_off X c _ (k0_off1_inb c) h]; rfl)) $$ [Hs Hd Ht]
  · isplitr; · iexact HR
    isplitl [Hs]; · iexact Hs
    isplitl [Hd]; · iexact Hd
    iexact Ht
  iintro Hc
  iapply Hk
  isplitl [Hc]; · iexact Hc
  iexact HO

/-! ### Sends -/

/-- Whose block a source holds. -/
theorem source_of : ∀ (c : Dev nD) (t : Fin 3) (i : Fin 7),
    origin (partner c (mu t i)) t i = (![c, origin c t 0, origin c t 1, origin c t 2] : Fin 4 → Dev nD) (srcOf i) := by decide +kernel

omit [FloatOps F] in
/-- What a send reads is the third its receiver awaits. -/
theorem src_form (c : Dev nD) (t : Fin 3) : ∀ i : Fin 7, ∃ f : Buf (Elt F) ((srcM t (srcOf i)).view.loc (c : Thread nD τ)),
    (srcPts X c t i : sProp 𝕄) = iprop((srcM t (srcOf i)).view.loc (c : Thread nD τ) ↦[(srcM t (srcOf i)).view.set]{shr i} f)
      ∧ (srcM t (srcOf i)).view.read (Elt F) f = third X ((![c, origin c t 0, origin c t 1, origin c t 2] : Fin 4 → Dev nD) (srcOf i)) t
  | 0 => ⟨Sg X c, rfl, read_stage X c t⟩
  | 1 => ⟨Sg X c, rfl, read_stage X c t⟩
  | 2 => ⟨Cm X c, rfl, read_comm X c t 0⟩
  | 3 => ⟨Sg X c, rfl, read_stage X c t⟩
  | 4 => ⟨Cm X c, rfl, read_comm X c t 0⟩
  | 5 => ⟨Cm X c, rfl, read_comm X c t 1⟩
  | 6 => ⟨Cm X c, rfl, read_comm X c t 2⟩

/-- A send: the source's share, the place on the partner and the duties become the started transfer. -/
theorem send_cell (c : Dev nD) (t : Fin 3) (i : Fin 7) (l l' : List Act) (hl : debt c l' = debt c l + tallyAt (kcell (partner c (mu t i), .inr (dRcv t i))) () (NT t))
    {sp : Space} (dst : Memref sig .tc sp (Sm t) .bf16) (n : Dev nD) (hn : n = partner c (mu t i)) (G : Buf (Elt F) (dst.view.loc (n : Thread nD τ)))
    (hU : (dU n t i : sProp 𝕄) = iprop(∃ g, dst.view.loc (n : Thread nD τ) ↦[dst.view.set]{fullShare} g))
    (hF : (dF X n t i : sProp 𝕄) = iprop(dst.view.loc (n : Thread nD τ) ↦[dst.view.set]{fullShare} G))
    (hread : dst.view.read (Elt F) G = third X (origin n t i) t) (hN : dst.view.amount (.dma (rcvS t i)) = NT t)
    {hsc : dst.view.ref.isScScratch = false} (hsrc : (srcM t (srcOf i)).view.WordExact) (hdst : dst.view.WordExact)
    (hsem : DmaTarget.Typed .vmem (.dma (rcvS t i)) (.remote (Dev.tc n) dst (.dma (sndS t i)) hsc))
    (k : PUnit → Prog (Eff F) PUnit) (Q : PUnit → sProp 𝕄) :
    iprop(recs X K ∗ levAts L lv ∗ (it X c (.py (dSnd t i)) ∗ it X c (.dst t i) ∗ it X c (.tk (dSnd t i))) ∗ owing c l')
      ⊢ iprop(((it X c (.cr (dSnd t i)) ∗ owing c l) -∗ runsWell c (k ⟨⟩) Q)
          -∗ runsWell c (.op (.enqueueDma (srcM t (srcOf i)) (.remote (Dev.tc n) dst (.dma (sndS t i)) hsc) (.dma (rcvS t i)) hsrc hdst hsem) k) Q) := by
  subst hn
  obtain ⟨f, hf, hrf⟩ := src_form X c t i
  rw [← source_of c t i, ← hread] at hrf
  simp only [owing, it, tkPts]
  rw [hl, hU, show kpay X c (.inr (dSnd t i)) 0 = srcPts X c t i from rfl, hf]
  iintro ⟨#HR, -, ⟨Hs, ⟨%g, Hd⟩, Ht, Ht'⟩, ⟨%W, HO⟩⟩ Hk
  iapply (Rounds.wp_send_pointsTo 𝒱₀ ER (gather X) (c : Thread nD τ) none (κ₁ := K (c, .inr (dSnd t i))) (κ₂ := K (partner c (mu t i), .inr (dRcv t i)))
    (r₁ := 0) (r₂ := 0) (d₁ := 0) (d₂ := 0) (fd := g)
    (zero_mem X c (dSnd t i))
    (zero_mem X (partner c (mu t i)) (dRcv t i)) () () (NT t) hN
    (amount_at X c (.inr (dSnd t i)) 0) (amount_at X (partner c (mu t i)) (.inr (dRcv t i)) 0) (debt c l) rfl (W := W)
    (by show _ ⊢ (gather X).payload (kcell (c, .inr (dSnd t i))) 0 0; rw [payload_at X c (.inr (dSnd t i)) 0, show kpay X c (.inr (dSnd t i)) 0 = srcPts X c t i from rfl, hf])
    (by show _ ⊢ (gather X).payload (kcell (partner c (mu t i), .inr (dRcv t i))) 0 0; rw [payload_at X (partner c (mu t i)) (.inr (dRcv t i)) 0, show kpay X (partner c (mu t i)) (.inr (dRcv t i)) 0 = dF X (partner c (mu t i)) t i from rfl,
          hF, hrf, pointsTo_congr (write_on dst.view g G)])) $$ [Hs Hd HO Ht Ht']
  · isplitr; · iapply (inv_at X K (c, .inr (dSnd t i))); iexact HR
    isplitr; · iapply (inv_at X K (partner c (mu t i), .inr (dRcv t i))); iexact HR
    isplitl [Hs]; · iexact Hs
    isplitl [Hd]; · iexact Hd
    isplitl [HO]; · iexact HO
    isplitl [Ht]; · iexact Ht
    isplitr; · iapply (reached_at X K (c, .inr (dSnd t i))); iexact HR
    isplitl [Ht']; · iexact Ht'
    iapply (reached_at X K (partner c (mu t i), .inr (dRcv t i))); iexact HR
  iintro ⟨Hc, HO⟩
  iapply Hk
  isplitl [Hc]; · iexact Hc
  iexists _; iexact HO

/-- A send into a slot. -/
theorem sound_sendC (c : Dev nD) (t i : Fin 3) (l : List Act) : Sound X K c (.sendC t i) l := by
  intro k Q
  rw [show pre (.sendC t i) = {.py (dSnd t (ix3 i)), .dst t (ix3 i), .tk (dSnd t (ix3 i))} from rfl,
    sep_three (by intro e; cases e) (by intro e; cases e) (by intro e; cases e), show post (.sendC t i) = {.cr (dSnd t (ix3 i))} from rfl, bigSep_singleton]
  exact send_cell X K c t (ix3 i) l _ (debt_pays c (a := .sendC t i) rfl l) (commM t i) ⟨sendDev c t (ix3 i), sendDev_lt c t (ix3 i)⟩ (Fin.ext (sendDev_eq c t (ix3 i)))
    (Cm X _) (dU_slot _ t i) (dF_slot X _ t i) (read_comm X _ t i) rfl _ _ _ k Q

/-- A send into the result. -/
theorem sound_sendO (c : Dev nD) (t : Fin 3) (i : Fin 4) (l : List Act) : Sound X K c (.sendO t i) l := by
  intro k Q
  rw [show pre (.sendO t i) = {.py (dSnd t (ix4 i)), .dst t (ix4 i), .tk (dSnd t (ix4 i))} from rfl,
    sep_three (by intro e; cases e) (by intro e; cases e) (by intro e; cases e), show post (.sendO t i) = {.cr (dSnd t (ix4 i))} from rfl, bigSep_singleton]
  have hn : (⟨sendDev c t (ix4 i), sendDev_lt c t (ix4 i)⟩ : Dev nD) = partner c (mu t (ix4 i)) := Fin.ext (sendDev_eq c t (ix4 i))
  have h : sendOff c t i = ![4096 * (origin ⟨sendDev c t (ix4 i), sendDev_lt c t (ix4 i)⟩ t (ix4 i)).val + row0 t, 0] := by rw [hn]; exact sendOff_eq c t i
  exact send_cell X K c t (ix4 i) l _ (debt_pays c (a := .sendO t i) rfl l) (outM t (sendOff c t i) (send_inb c t i)) _ hn
    (Go X _) ((dU_rows _ t i).trans (outU_off _ _ t _ _ h)) ((dF_rows X _ t i).trans (out_off X _ _ t _ _ h)) (read_off X _ _ t _ _ h) rfl _ _ _ k Q

/-! ### The rest -/

omit [FloatOps F] in
/-- The right half of a slot is what the sends that read it need. -/
theorem slot_shares (c : Dev nD) (t : Fin 3) : ∀ i : Fin 3, (cm X c t i fullShare.right : sProp 𝕄) = bigSep (readers i) fun j => srcPts X c t j
  | 0 => by
    rw [show readers 0 = ({2, 4} : Finset (Fin 7)) from rfl, sep_two (by decide)]
    exact halves _ _ _
  | 1 => by rw [show readers 1 = ({5} : Finset (Fin 7)) from rfl, bigSep_singleton]; rfl
  | 2 => by rw [show readers 2 = ({6} : Finset (Fin 7)) from rfl, bigSep_singleton]; rfl

/-- What is left of a received slot. -/
theorem slot_post (c : Dev nD) (t i : Fin 3) : bigSep (post (.recvC t i)) (it X c) = iprop(it X c (.psD (dRcv t (ix3 i))) ∗ it X c (.py (dRcv t (ix3 i)))) := by
  rw [show post (.recvC t i) = insert (.psD (dRcv t (ix3 i))) (insert (.fwdSrc t i) (slotted t i)) from rfl,
    sep_insert (fun h => by
      rcases Finset.mem_insert.mp h with h | h
      · cases h
      · obtain ⟨j, -, h⟩ := Finset.mem_image.mp h; cases h),
    sep_insert (fun h => by obtain ⟨j, -, h⟩ := Finset.mem_image.mp h; cases h),
    slotted, bigSep_image_of_injOn (fun j _ j' _ h => by cases h; rfl)]
  refine congrArg (fun R : sProp 𝕄 => iprop(it X c (.psD (dRcv t (ix3 i))) ∗ R)) ?_
  show iprop(cm X c t i fullShare.left ∗ bigSep (readers i) fun j => srcPts X c t j) = dF X c t (ix3 i)
  rw [← slot_shares, dF_slot]
  exact (halves _ _ _).symm

/-- The shares of the staged block that the sends read, by third and phase. -/
theorem staged_pairs : staged = Finset.univ.image fun p : Fin 3 × Fin 3 => Item.py (dSnd p.1 ((![0, 1, 3] : Fin 3 → Fin 7) p.2)) := by decide +kernel
/-- The transfers that read the staged block differ from phase to phase. -/
theorem three_inj : ∀ j j' : Fin 3, (![0, 1, 3] : Fin 3 → Fin 7) j = (![0, 1, 3] : Fin 3 → Fin 7) j' → j = j' := by decide
/-- The share of the staged block that a send reads names its third and its transfer. -/
theorem dnum_inj' {t t' : Fin 3} {i i' : Fin 7} (h : Item.py (dSnd t i) = Item.py (dSnd t' i')) : t = t' ∧ i = i' := by
  injection h with h; injection h with h; injection h with h; injection h with h; injection h with h1 h2; exact ⟨h1, h2⟩

/-- The staged block's right half is what the sends that read it need. -/
theorem stage_shares (c : Dev nD) : (stgW X c fullShare.right : sProp 𝕄) = bigSep staged (it X c) := by
  rw [staged_pairs, bigSep_image_of_injOn (fun p _ q _ h => by
      have h := dnum_inj' h
      exact Prod.ext h.1 (three_inj _ _ h.2)), bigSep_univ_prod, stage_cut]
  refine bigSep_congr fun t _ => ?_
  rw [show (Finset.univ : Finset (Fin 3)) = {0, 1, 2} from rfl, sep_three (by decide) (by decide) (by decide)]
  show stg X c t fullShare.right = iprop(stg X c t fullShare.right.left ∗ stg X c t fullShare.right.right.left ∗ stg X c t fullShare.right.right.right)
  exact (halves _ _ _).trans (congrArg (fun R : sProp 𝕄 => iprop(stg X c t fullShare.right.left ∗ R)) (halves _ _ _))

/-- The offset of two zeros is zero everywhere. -/
theorem zero_off : (![0, 0] : Fin 2 → ℕ) = fun _ => 0 := by decide

/-- A whole block. -/
abbrev wholeRect : Rect S4096x1024 := Rect.unit (s := S4096x1024) ![0, 0] S4096x1024.size Facts₀.inb_S4096x1024_S4096x1024_0_0

/-- The step that fills the stage: two loads and a store. -/
theorem fill_eq (c : Dev nD) (k : PUnit → Prog (Eff F) PUnit) :
    (act c .fill).bind k = .op (.load (Memref.whole cc0_stg0_0) wholeRect.toLoadRect (View.loadsAt_vmem Facts₀.h_S4096x1024)) fun v : Vec F S4096x1024 .bf16 =>
      .op (.load (Memref.whole cc0_scratch0) wholeRect.toLoadRect (View.loadsAt_vmem Facts₀.h_S4096x1024)) fun _ =>
      .op (.store (Memref.whole cc0_scratch0) wholeRect (k0_pay1 v) Finset.univ (View.stores_vmem Facts₀.h_S4096x1024
        ((Memref.isWhole_whole cc0_scratch0).storeExact_slice rfl _ Facts₀.packedbf16_S4096x1024_S4096x1024_0_0) (fun _ => rfl)) (.inl rfl)) k := rfl

/-- The input block is copied to the staging buffer. -/
theorem sound_fill (c : Dev nD) (l : List Act) : Sound X K c .fill l := by
  intro k Q
  have ho : (owing c (.fill :: l) : sProp 𝕄) = owing c l := by unfold owing; rw [debt_free c rfl]
  have hi : Item.inp ∉ insert Item.cpSrc staged := fun h => by
    rcases Finset.mem_insert.mp h with h | h
    · cases h
    · obtain ⟨j, -, h⟩ := Finset.mem_image.mp h; cases h
  have hc : Item.cpSrc ∉ staged := fun h => by obtain ⟨j, -, h⟩ := Finset.mem_image.mp h; cases h
  rw [show pre .fill = {.raw} from rfl, bigSep_singleton, ho, show post .fill = insert .inp (insert .cpSrc staged) from rfl, sep_insert hi, sep_insert hc, ← stage_shares]
  simp only [it, inpPts]
  rw [fill_eq]
  iintro ⟨-, -, ⟨Hx, ⟨%f, Hs⟩⟩, HO⟩ Hk
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_scratch0) (Finset.subset_univ _)) $$ Hs; iintro Hs
  iapply (wp_store 𝒱₀ (c : Thread nD τ) none Set.univ (m := Memref.whole cc0_scratch0) (r := wholeRect) (Mk := Finset.univ) (Finset.subset_univ _)) $$ Hs; iintro Hs
  rw [show (Memref.whole cc0_stg0_0).view.readAt (Elt F) wholeRect.toLoadRect (X c) = X c from Memref.readAt_unit_zero (Elt F) cc0_stg0_0 zero_off _ (X c),
    show k0_pay1 (X c) = X c from (shapeCast_self _ _).trans (shapeCast_self _ _),
    show ((Memref.whole cc0_scratch0).access wholeRect : View sig .tc _ _ _).write (Elt F) f (X c) Finset.univ = X c from
      Memref.write_access_unit_zero_univ (Elt F) cc0_scratch0 zero_off _ f (X c)]
  iapply Hk
  isplitr [HO]
  · isplitl [Hx]; · iexact Hx
    have h : ((c : Thread nD τ).loc cc0_scratch0 ↦{fullShare} Sg X c : sProp 𝕄) ⊢ iprop(stgW X c fullShare.left ∗ stgW X c fullShare.right) := by
      unfold stgW; rw [View.set_whole]; exact Entails.of_eq (halves _ _ _)
    iapply h; iexact Hs
  iexact HO

/-- Every step is sound where its wait is allowed. -/
theorem sound (c : Dev nD) (a : Act) (l : List Act) (h : mayRun a l = true) : Sound X K c a l := by
  cases a with
  | signal μ => exact sound_signal X K c μ l
  | waitBar => exact sound_waitBar X K c l h
  | fill => exact sound_fill X K c l
  | copyOwn => exact sound_copyOwn X K c l
  | waitOwn => exact sound_wait X K c .waitOwn dCp l h rfl rfl (sep_done X c _) rfl (wpE_waitDma2_eq 𝒱₀ (c : Thread nD τ) none Set.univ) rfl
  | sendC t i => exact sound_sendC X K c t i l
  | sendO t i => exact sound_sendO X K c t i l
  | recvC t i => exact sound_wait X K c (.recvC t i) (dRcv t (ix3 i)) l h rfl rfl (slot_post X c t i) rfl (wpE_waitDma2_eq 𝒱₀ (c : Thread nD τ) none Set.univ) rfl
  | recvO t i => exact sound_wait X K c (.recvO t i) (dRcv t (ix4 i)) l h rfl rfl (sep_done X c _) rfl (wpE_waitDma2_eq 𝒱₀ (c : Thread nD τ) none Set.univ) rfl
  | drain t i => exact sound_drain X K c t i l
  | waitDrain t i => exact sound_wait X K c (.waitDrain t i) (dFwd t i) l h rfl rfl (sep_done X c _) rfl (wpE_waitDma2_eq 𝒱₀ (c : Thread nD τ) none Set.univ) rfl
  | waitSendC t i => exact sound_wait X K c (.waitSendC t i) (dSnd t (ix3 i)) l h rfl rfl (sep_done X c _) rfl (wpE_waitDma2_eq 𝒱₀ (c : Thread nD τ) none Set.univ) rfl
  | waitSendO t i => exact sound_wait X K c (.waitSendO t i) (dSnd t (ix4 i)) l h rfl rfl (sep_done X c _) rfl (wpE_waitDma2_eq 𝒱₀ (c : Thread nD τ) none Set.univ) rfl

end Cert.KernelIdeal.Gather
-- ==== Proof.Body.lean ====
/- The whole script on one device: the launch's deal becomes the first items, the steps run, and the last items become the
   filled buffers and the semaphores at zero. -/
module

public import proofs.«01_k».proof.Proof.Steps

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (K : Dev nD × CK → ℕ)

/-! ## The script -/

/-- A run of steps is sound: from what it starts from, it leaves what it ends with, owing nothing. -/
theorem runs_sound (c : Dev nD) : ∀ (l : List Act) (S S' : Finset Item), RunsTo S l S' → ∀ Q : PUnit → sProp 𝕄,
    iprop(recs X K ∗ levAts L lv ∗ bigSep S (it X c) ∗ owing c l)
      ⊢ iprop(((bigSep S' (it X c) ∗ owing c []) -∗ |={Set.univ}=> Q ⟨⟩) -∗ runsWell c (runs c l) Q)
  | [], S, S', h, Q => by
    cases (show S = S' from h)
    rw [show runs (F := F) c [] = .ret ⟨⟩ from rfl]
    unfold runsWell
    rw [wp_ret]
    iintro ⟨-, -, HS, HO⟩ Hk
    iapply Hk
    isplitl [HS]; · iexact HS
    iexact HO
  | a :: l, S, S', h, Q => by
    obtain ⟨h1, h2, h3, h4⟩ := h
    have ih := runs_sound c l _ S' h4 Q
    rw [sep_part h1, show runs (F := F) c (a :: l) = (act c a).bind fun _ => runs c l from rfl]
    rw [sep_union h2] at ih
    iintro ⟨#HR, #HL, ⟨Hp, Hrest⟩, HO⟩ Hk
    iapply (sound X K c a l h3 (fun _ => runs c l) Q) $$ [Hp HO]
    · isplitr; · iexact HR
      isplitr; · iexact HL
      isplitl [Hp]; · iexact Hp
      iexact HO
    iintro ⟨Hq, HO⟩
    iapply ih $$ [Hrest Hq HO]
    · isplitr; · iexact HR
      isplitr; · iexact HL
      isplitl [Hrest Hq]
      · isplitl [Hrest]; · iexact Hrest
        iexact Hq
      iexact HO
    iexact Hk

/-! ## Lists of items as separating conjunctions -/

section Lists
omit [FloatOps F]
variable {I J : Type} [DecidableEq I] [DecidableEq J]

/-- A list in two parts. -/
theorem sepL_append {l l' : List I} (h : (l ++ l').Nodup) (Φ : I → sProp 𝕄) :
    bigSep (l ++ l').toFinset Φ = iprop(bigSep l.toFinset Φ ∗ bigSep l'.toFinset Φ) := by
  rw [List.toFinset_append, sep_union (Finset.disjoint_left.mpr fun x hx hx' => List.disjoint_of_nodup_append h (List.mem_toFinset.mp hx) (List.mem_toFinset.mp hx'))]

/-- A list of renamed members. -/
theorem sepL_map (f : J → I) (l : List J) (h : (l.map f).Nodup) (Φ : I → sProp 𝕄) : bigSep (l.map f).toFinset Φ = bigSep l.toFinset fun j => Φ (f j) := by
  have e : (l.map f).toFinset = l.toFinset.image f := Finset.ext fun x => by
    rw [List.mem_toFinset, List.mem_map, Finset.mem_image]
    exact ⟨fun ⟨j, hj, e⟩ => ⟨j, List.mem_toFinset.mpr hj, e⟩, fun ⟨j, hj, e⟩ => ⟨j, List.mem_toFinset.mp hj, e⟩⟩
  rw [e, bigSep_image_of_injOn fun i hi j hj e => List.inj_on_of_nodup_map h (List.mem_toFinset.mp hi) (List.mem_toFinset.mp hj) e]

end Lists

/-- No item is listed twice in `firstL`. -/
theorem first_nodup : firstL.Nodup := List.Nodup.of_map bit (by decide +kernel)
/-- No item is listed twice in `lastL`. -/
theorem last_nodup : lastL.Nodup := List.Nodup.of_map bit (by decide +kernel)
/-- No cell is listed twice in `startedL`. -/
theorem started_nodup : startedL.Nodup := List.Nodup.of_map dnum (by decide +kernel)
/-- No cell is listed twice in the two lists `startedL` and `receivedL` together. -/
theorem all_nodup : (startedL ++ receivedL).Nodup := List.Nodup.of_map dnum (by decide +kernel)
/-- No cell is listed twice in the two lists `startedL` and `rowsL` together. -/
theorem rows_nodup : (startedL ++ rowsL).Nodup := List.Nodup.of_map dnum (by decide +kernel)
/-- Every transfer cell is in one of the two lists. -/
theorem all_cells : (startedL ++ receivedL).toFinset = Finset.univ := by decide +kernel
/-- Every third is listed with each of three numbers. -/
theorem all_pairs3 : (pairs (List.finRange 3)).toFinset = Finset.univ := by decide +kernel
/-- Every third is listed with each of four numbers. -/
theorem all_pairs4 : (pairs (List.finRange 4)).toFinset = Finset.univ := by decide +kernel
/-- Every third is listed with each of seven numbers. -/
theorem all_pairs7 : (pairs (List.finRange 7)).toFinset = Finset.univ := by decide +kernel
/-- The three masks are all the masks. -/
theorem all_masks : ([0, 1, 2] : List (Fin 3)).toFinset = Finset.univ := by decide +kernel

omit [FloatOps F] in
/-- The started transfers, by sort. -/
theorem started_sep (Φ : DK → sProp 𝕄) : bigSep startedL.toFinset Φ
    = iprop(Φ dCp ∗ (bigSep Finset.univ fun p : Fin 3 × Fin 3 => Φ (dFwd p.1 p.2)) ∗ bigSep Finset.univ fun p : Fin 3 × Fin 7 => Φ (dSnd p.1 p.2)) := by
  have h := started_nodup
  have h1 : ((pairs (List.finRange 3)).map (fun p => dFwd p.1 p.2) ++ (pairs (List.finRange 7)).map fun p => dSnd p.1 p.2).Nodup := (List.nodup_cons.mp h).2
  rw [startedL, List.toFinset_cons, sep_insert (fun hc => (List.nodup_cons.mp h).1 (List.mem_toFinset.mp hc)), sepL_append h1,
    sepL_map _ _ (List.Nodup.of_append_left h1), sepL_map _ _ (List.Nodup.of_append_right h1), all_pairs3, all_pairs7]

/-- What a device holds at the start. -/
theorem first_sep (c : Dev nD) : bigSep firstL.toFinset (it X c)
    = iprop((it X c .bar ∗ it X c .raw) ∗ (bigSep Finset.univ fun μ => it X c (.sg μ)) ∗ (bigSep startedL.toFinset fun d => it X c (.tk d))
        ∗ (bigSep Finset.univ fun d => it X c (.ps d)) ∗ bigSep Finset.univ fun p : Fin 3 × Fin 7 => it X c (.cr (dRcv p.1 p.2))) := by
  have h := first_nodup
  have h1 := List.Nodup.of_append_right h
  have h2 := List.Nodup.of_append_right h1
  have h3 := List.Nodup.of_append_right h2
  rw [firstL, sepL_append h, sepL_append h1, sepL_append h2, sepL_append h3,
    show ([.bar, .raw] : List Item).toFinset = {.bar, .raw} from rfl, sep_two (by decide),
    show ([.sg 0, .sg 1, .sg 2] : List Item) = ([0, 1, 2] : List (Fin 3)).map .sg from rfl, sepL_map _ _ (List.Nodup.of_append_left h1), all_masks,
    sepL_map _ _ (List.Nodup.of_append_left h2), sepL_map _ _ (List.Nodup.of_append_left h3), all_cells,
    sepL_map _ _ (List.Nodup.of_append_right h3), sepL_map _ _ (List.Nodup.of_append_right all_nodup), all_pairs7]

/-- What it holds at the end. -/
theorem last_sep (c : Dev nD) : bigSep lastL.toFinset (it X c)
    = iprop((it X c .barD ∗ it X c .inp) ∗ (bigSep Finset.univ fun d => it X c (.psD d))
        ∗ (bigSep startedL.toFinset fun d => it X c (.py d)) ∗ bigSep Finset.univ fun p : Fin 3 × Fin 4 => it X c (.py (dRcv p.1 (ix4 p.2)))) := by
  have h := last_nodup
  have h1 := List.Nodup.of_append_right h
  rw [lastL, sepL_append h, sepL_append h1, show ([.barD, .inp] : List Item).toFinset = {.barD, .inp} from rfl, sep_two (by decide),
    sepL_map _ _ (List.Nodup.of_append_left h1), all_cells, sepL_map _ _ (List.Nodup.of_append_right h1), sepL_append rows_nodup,
    sepL_map (fun p : Fin 3 × Fin 4 => dRcv p.1 (ix4 p.2)) _ (List.Nodup.of_append_right rows_nodup), all_pairs4]

omit [FloatOps F] in
/-- The transfers by where they land: a slot or the result. -/
theorem split7 (Φ : Fin 3 × Fin 7 → sProp 𝕄) : bigSep Finset.univ Φ
    = iprop((bigSep Finset.univ fun p : Fin 3 × Fin 3 => Φ (p.1, ix3 p.2)) ∗ bigSep Finset.univ fun p : Fin 3 × Fin 4 => Φ (p.1, ix4 p.2)) := by
  rw [bigSep_univ_prod, bigSep_univ_prod, bigSep_univ_prod, ← bigSep_sep']
  refine bigSep_congr fun t _ => ?_
  rw [bigSep_univ_equiv (finSumFinEquiv (m := 3) (n := 4)), bigSep_univ_sum]
  refine congrArg (fun R : sProp 𝕄 => iprop((bigSep Finset.univ fun j : Fin 3 => Φ (t, ix3 j)) ∗ R)) (bigSep_congr fun j _ => congrArg (fun i => Φ (t, i)) (Fin.ext ?_))
  exact Nat.add_comm 3 j.val

omit [FloatOps F] in
/-- A device's cells: the barrier and the transfer cells. -/
theorem cells_sep (Φ : CK → sProp 𝕄) : bigSep Finset.univ Φ = iprop(Φ kBar ∗ bigSep Finset.univ fun d : DK => Φ (.inr d)) := by
  rw [bigSep_univ_sum, show (Finset.univ : Finset Unit) = {()} from rfl, bigSep_singleton]; rfl

/-! ## The start -/

/-- The duties a device pays. -/
def payToks (c : Dev nD) : sProp 𝕄 :=
  iprop((bigSep Finset.univ fun μ : Fin 3 => dutyTok ER (kcell (partner c μ, kBar)) 0 μ)
    ∗ dutyTok ER (kcell (c, .inr dCp)) 0 0
    ∗ (bigSep Finset.univ fun p : Fin 3 × Fin 3 => dutyTok ER (kcell (c, .inr (dFwd p.1 p.2))) 0 0)
    ∗ (bigSep Finset.univ fun p : Fin 3 × Fin 7 => dutyTok ER (kcell (c, .inr (dSnd p.1 p.2))) 0 0)
    ∗ bigSep Finset.univ fun p : Fin 3 × Fin 7 => dutyTok ER (kcell (partner c (mu p.1 p.2), .inr (dRcv p.1 p.2))) 0 0)
/-- The positions of a device's cells before their waits. -/
def spots (c : Dev nD) : sProp 𝕄 := bigSep Finset.univ fun k : CK => atPos ER (kcell (c, k)) 0 ∅ 0
/-- What the partners' steps will pay a device's cells. -/
def coming (c : Dev nD) : sProp 𝕄 :=
  iprop(cred (tallyAt (kcell (c, kBar)) () 3) ∗ bigSep Finset.univ fun p : Fin 3 × Fin 7 => cred (tallyAt (kcell (c, .inr (dRcv p.1 p.2))) () (NT p.1)))

/-- The partner's partner across the same mask is the device itself. -/
theorem flip_flip : ∀ (c : Dev nD) (μ : Fin 3), partner (partner c μ) μ = c := by decide +kernel

omit [FloatOps F] in
/-- What a device hands its partners is the places on it that all sends fill. -/
theorem handed (c : Dev nD) : (bigSep Finset.univ fun μ => (barPay (partner c μ) μ : sProp 𝕄)) = bigSep Finset.univ fun p : Fin 3 × Fin 7 => dU c p.1 p.2 := by
  unfold barPay
  rw [← bigSep_univ_prod (fun p : Fin 3 × Fin 7 => (dU (partner (partner c p.1) p.1) (p.1 - phase p.2) p.2 : sProp 𝕄)), bigSep_univ_equiv (⟨fun p => (mu p.1 p.2, p.2), fun p => (p.1 - phase p.2, p.2),
    fun p => Prod.ext (mu_sub p) rfl, fun p => Prod.ext (mu_add p) rfl⟩ : Fin 3 × Fin 7 ≃ Fin 3 × Fin 7)]
  refine bigSep_congr fun p _ => ?_
  show dU (partner (partner c (mu p.1 p.2)) (mu p.1 p.2)) (mu p.1 p.2 - phase p.2) p.2 = dU c p.1 p.2
  rw [mu_sub, flip_flip]

/-- The launch's deal and the buffers are the first items, beside the unused part of the slots' buffer. -/
theorem entry (c : Dev nD) :
    iprop(spots c ∗ payToks c ∗ coming c ∗ inpPts X c ∗ (∃ f, (c : Thread nD τ).loc cc0_scratch0 ↦{fullShare} f)
        ∗ (∃ f, (c : Thread nD τ).loc cc0_scratch1 ↦{fullShare} f) ∗ ∃ f, (c : Thread nD τ).loc main_v1 ↦{fullShare} f)
      ⊢ iprop(bigSep firstL.toFinset (it X c) ∗ commRest c) := by
  rw [first_sep, started_sep]
  simp only [it, tkPts, bigSep_sep']
  rw [handed, split7 (fun p => dU c p.1 p.2)]
  simp only [dU_slot, dU_rows]
  unfold spots payToks coming
  rw [cells_sep fun k : CK => (atPos ER (kcell (c, k)) 0 ∅ 0 : sProp 𝕄)]
  iintro ⟨⟨Hb, Hps⟩, ⟨Ht, Htc, Htf, Hts, Htr⟩, ⟨Hcb, Hcr⟩, Hx, H0, ⟨%f1, H1⟩, ⟨%f, Hv⟩⟩
  ihave H1 := (comm_cut c f1) $$ H1
  icases H1 with ⟨Hslots, Hrest⟩
  ihave Hv := (out_cut c f) $$ Hv
  icases Hv with ⟨Hown, Houts⟩
  ihave Ho := (Entails.of_eq (split7 fun p : Fin 3 × Fin 7 => (outU c (origin c p.1 p.2) p.1 : sProp 𝕄))) $$ Houts
  icases Ho with ⟨Ho3, Ho4⟩
  isplitr [Hrest]
  · isplitl [Hcb Hb Hx H0]
    · isplitl [Hcb Hb]
      · isplitl [Hcb]; · iexact Hcb
        iexact Hb
      isplitl [Hx]; · iexact Hx
      iexact H0
    isplitl [Ht Hslots Ho4]
    · isplitl [Ht]; · iexact Ht
      isplitl [Hslots]; · iexact Hslots
      iexact Ho4
    isplitl [Htc Hown Htf Ho3 Hts Htr]
    · isplitl [Htc Hown]
      · isplitl [Htc]; · iexact Htc
        iexact Hown
      isplitl [Htf Ho3]
      · isplitl [Htf]; · iexact Htf
        iexact Ho3
      isplitl [Hts]; · iexact Hts
      iexact Htr
    isplitl [Hps]; · iexact Hps
    iexact Hcr
  iexact Hrest

/-! ## The end -/

omit [FloatOps F] in
/-- The returned sources of a third are the right halves of the staged third and of its slots. -/
theorem sources (c : Dev nD) (t : Fin 3) : bigSep Finset.univ (fun i : Fin 7 => (srcPts X c t i : sProp 𝕄))
    = iprop(stg X c t fullShare.right ∗ bigSep Finset.univ fun j : Fin 3 => cm X c t j fullShare.right) := by
  rw [show (Finset.univ : Finset (Fin 7)) = {0, 1, 3} ∪ (readers 0 ∪ (readers 1 ∪ readers 2)) from by decide,
    sep_union (by decide), sep_union (by decide), sep_union (by decide), ← slot_shares X c t 0, ← slot_shares X c t 1, ← slot_shares X c t 2,
    sep_three (by decide) (by decide) (by decide), show (Finset.univ : Finset (Fin 3)) = {0, 1, 2} from rfl, sep_three (by decide) (by decide) (by decide)]
  refine congrArg (fun R : sProp 𝕄 => iprop(R ∗ _)) ?_
  show iprop(stg X c t fullShare.right.left ∗ stg X c t fullShare.right.right.left ∗ stg X c t fullShare.right.right.right) = stg X c t fullShare.right
  exact ((halves _ _ _).trans (congrArg (fun R : sProp 𝕄 => iprop(stg X c t fullShare.right.left ∗ R)) (halves _ _ _))).symm

/-- What a device ends with: its buffers, the result filled, and its semaphores at zero. -/
def done (c : Dev nD) : sProp 𝕄 :=
  iprop((∃ f, (c : Thread nD τ).loc cc0_scratch0 ↦{fullShare} f) ∗ (∃ f, (c : Thread nD τ).loc cc0_scratch1 ↦{fullShare} f)
    ∗ ((c : Thread nD τ).loc main_v1 ↦{fullShare} Go X c)
    ∗ (bigSep Finset.univ fun d : DK => semVal (kcell (c, .inr d)) 0) ∗ semVal (kcell (c, kBar)) 0)

omit [FloatOps F] in
/-- A finished cell's semaphore is at zero. -/
theorem close (c : Dev nD) (k : CK) : iprop(recs X K ∗ atPos ER (kcell (c, k)) 1 ∅ 0) ⊢ (|={Set.univ}=> semVal (kcell (c, k)) 0 : sProp 𝕄) := by
  iintro ⟨#HR, Hp⟩
  iapply (Rounds.cell_close ER (gather X) (Set.mem_univ (K (c, k))) (fun h => h) (R := 1) (duties_later X (kcell (c, k))))
  isplitr; · iapply (inv_at X K (c, k)); iexact HR
  iexact Hp

omit [FloatOps F] in
/-- So are all of a device's. -/
theorem close_all (c : Dev nD) : iprop(recs X K ∗ bigSep Finset.univ fun d : DK => atPos ER (kcell (c, .inr d)) 1 ∅ 0)
    ⊢ (|={Set.univ}=> bigSep Finset.univ fun d : DK => semVal (kcell (c, .inr d)) 0 : sProp 𝕄) := by
  classical
  refine (sep_mono_left (BI.bigSep_of_persistent (Finset.univ : Finset DK) (recs X K))).trans ?_
  refine (Entails.of_eq (bigSep_sep' Finset.univ (fun _ : DK => recs X K) fun d : DK => atPos ER (kcell (c, .inr d)) 1 ∅ 0).symm).trans ?_
  exact (bigSep_mono fun d _ => close X K c (.inr d)).trans (bigSep_fupd _ _)

/-- The last items, with the unused part of the slots' buffer, are the filled buffers and the cells at zero. -/
theorem exit (c : Dev nD) : iprop(recs X K ∗ bigSep lastL.toFinset (it X c) ∗ commRest c) ⊢ (|={Set.univ}=> iprop(inpPts X c ∗ done X c) : sProp 𝕄) := by
  rw [last_sep, started_sep]
  simp only [it, kpay, bigSep_sep', dF_rows]
  rw [bigSep_univ_prod (fun p : Fin 3 × Fin 7 => (srcPts X c p.1 p.2 : sProp 𝕄)), bigSep_congr (s := Finset.univ) (fun (t : Fin 3) _ => sources X c t), bigSep_sep',
    ← stage_cut, ← bigSep_univ_prod (fun p : Fin 3 × Fin 3 => (cm X c p.1 p.2 fullShare.right : sProp 𝕄))]
  iintro ⟨#HR, ⟨⟨Hb, Hx⟩, Hd, ⟨⟨Hown, Hsl⟩, ⟨Ho3, Hcl⟩, ⟨Hsr, Hcr⟩⟩, Ho4⟩, Hrest⟩
  imod (close_all X K c) $$ [Hd] with Hd
  · isplitr; · iexact HR
    iexact Hd
  imod (close X K c kBar) $$ [Hb] with Hb
  · isplitr; · iexact HR
    iexact Hb
  imodintro
  isplitl [Hx]; · iexact Hx
  unfold done
  isplitl [Hsl Hsr]
  · iexists (Sg X c)
    have h : iprop(stgW X c fullShare.left ∗ stgW X c fullShare.right) ⊢ ((c : Thread nD τ).loc cc0_scratch0 ↦{fullShare} Sg X c : sProp 𝕄) := by
      unfold stgW; rw [View.set_whole]; exact Entails.of_eq (halves _ _ _).symm
    iapply h
    isplitl [Hsl]; · iexact Hsl
    iexact Hsr
  isplitl [Hcl Hcr Hrest]
  · iapply (comm_join X c)
    isplitr [Hrest]
    · have h : iprop((bigSep Finset.univ fun p : Fin 3 × Fin 3 => cm X c p.1 p.2 fullShare.left) ∗ bigSep Finset.univ fun p : Fin 3 × Fin 3 => cm X c p.1 p.2 fullShare.right)
          ⊢ (bigSep Finset.univ fun p : Fin 3 × Fin 3 => cm X c p.1 p.2 fullShare : sProp 𝕄) := by
        rw [← bigSep_sep']; exact bigSep_mono fun p _ => Entails.of_eq (halves _ _ _).symm
      iapply h
      isplitl [Hcl]; · iexact Hcl
      iexact Hcr
    iexact Hrest
  isplitl [Hown Ho3 Ho4]
  · iapply (Entails.of_eq (out_join X c))
    isplitl [Hown]; · iexact Hown
    iapply (Entails.of_eq (split7 fun p : Fin 3 × Fin 7 => (out X c (origin c p.1 p.2) p.1 : sProp 𝕄)).symm)
    isplitl [Ho3]; · iexact Ho3
    iexact Ho4
  isplitl [Hd]; · iexact Hd
  iexact Hb

/-- The whole script, from the launch's deal to the end. -/
theorem script_sound (c : Dev nD) (Q : PUnit → sProp 𝕄) :
    iprop(recs X K ∗ levAts L lv ∗ (spots c ∗ payToks c ∗ coming c ∗ inpPts X c ∗ (∃ f, (c : Thread nD τ).loc cc0_scratch0 ↦{fullShare} f)
        ∗ (∃ f, (c : Thread nD τ).loc cc0_scratch1 ↦{fullShare} f) ∗ ∃ f, (c : Thread nD τ).loc main_v1 ↦{fullShare} f) ∗ owing c script)
      ⊢ iprop(((inpPts X c ∗ done X c ∗ owing c []) -∗ Q ⟨⟩) -∗ runsWell c (runs c script) Q) := by
  iintro ⟨#HR, #HL, Hin, HO⟩ Hk
  ihave Hin := (entry X c) $$ Hin
  icases Hin with ⟨HS, Hrest⟩
  iapply (runs_sound X K c script _ _ script_runs Q) $$ [HS HO]
  · isplitr; · iexact HR
    isplitr; · iexact HL
    isplitl [HS]; · iexact HS
    iexact HO
  iintro ⟨HS, HO⟩
  imod (exit X K c) $$ [HS Hrest] with ⟨Hx, Hd⟩
  · isplitr; · iexact HR
    isplitl [HS]; · iexact HS
    iexact Hrest
  imodintro
  iapply Hk
  isplitl [Hx]; · iexact Hx
  isplitl [Hd]; · iexact Hd
  iexact HO

end Cert.KernelIdeal.Gather
-- ==== Proof.Deal.lean ====
/- What the launch deals: the records, positions and duty tokens of every cell, the tokens passed on to the devices that pay
   them, and what the partners' steps will pay each device. -/
module

public import proofs.«01_k».proof.Proof.Body

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F)

/-! ## The duty tokens -/

section Tokens
omit [FloatOps F]

/-- A device's transfer cells, by sort. -/
theorem dk_sep (Φ : DK → sProp 𝕄) : bigSep Finset.univ Φ
    = iprop(Φ dCp ∗ (bigSep Finset.univ fun p : Fin 3 × Fin 3 => Φ (dFwd p.1 p.2)) ∗ (bigSep Finset.univ fun p : Fin 3 × Fin 7 => Φ (dSnd p.1 p.2))
        ∗ bigSep Finset.univ fun p : Fin 3 × Fin 7 => Φ (dRcv p.1 p.2)) := by
  rw [bigSep_univ_sum, show (Finset.univ : Finset Unit) = {()} from rfl, bigSep_singleton, bigSep_univ_sum, bigSep_univ_sum]; rfl

/-- The duties of a device's own cells. -/
def toks (c : Dev nD) : sProp 𝕄 :=
  iprop((bigSep Finset.univ fun μ : Fin 3 => dutyTok ER (kcell (c, kBar)) 0 μ) ∗ bigSep Finset.univ fun d : DK => dutyTok ER (kcell (c, .inr d)) 0 0)

/-- What every device holds for each of some indices may be held by its partner across a mask instead. -/
theorem to_partner {I : Type} [Fintype I] (μ : I → Fin 3) (Φ : Dev nD → I → sProp 𝕄) :
    (bigSep Finset.univ fun c : Dev nD => bigSep Finset.univ fun i : I => Φ c i)
      = bigSep Finset.univ fun c : Dev nD => bigSep Finset.univ fun i : I => Φ (partner c (μ i)) i := by
  classical
  rw [← bigSep_univ_prod (fun p : Dev nD × I => Φ p.1 p.2), ← bigSep_univ_prod (fun p : Dev nD × I => Φ (partner p.1 (μ p.2)) p.2),
    bigSep_univ_equiv (⟨fun p => (partner p.1 (μ p.2), p.2), fun p => (partner p.1 (μ p.2), p.2), fun p => Prod.ext (flip_flip p.1 _) rfl,
      fun p => Prod.ext (flip_flip p.1 _) rfl⟩ : Dev nD × I ≃ Dev nD × I)]
  rfl

/-- The tokens passed on: the barrier's and the receives' to the partners that pay them. -/
theorem toks_deal : (bigSep Finset.univ fun c : Dev nD => (toks c : sProp 𝕄)) ⊢ bigSep Finset.univ fun c : Dev nD => payToks c := by
  have h : ∀ c : Dev nD, (toks c : sProp 𝕄) = iprop((bigSep Finset.univ fun μ : Fin 3 => dutyTok ER (kcell (c, kBar)) 0 μ)
      ∗ dutyTok ER (kcell (c, .inr dCp)) 0 0
      ∗ (bigSep Finset.univ fun p : Fin 3 × Fin 3 => dutyTok ER (kcell (c, .inr (dFwd p.1 p.2))) 0 0)
      ∗ (bigSep Finset.univ fun p : Fin 3 × Fin 7 => dutyTok ER (kcell (c, .inr (dSnd p.1 p.2))) 0 0)
      ∗ bigSep Finset.univ fun p : Fin 3 × Fin 7 => dutyTok ER (kcell (c, .inr (dRcv p.1 p.2))) 0 0) := fun c => by
    unfold toks; rw [dk_sep]
  rw [bigSep_congr fun c _ => h c]
  unfold payToks
  simp only [bigSep_sep']
  rw [to_partner (fun μ : Fin 3 => μ) fun c μ => (dutyTok ER (kcell (c, kBar)) 0 μ : sProp 𝕄),
    to_partner (fun p : Fin 3 × Fin 7 => mu p.1 p.2) fun c p => (dutyTok ER (kcell (c, .inr (dRcv p.1 p.2))) 0 0 : sProp 𝕄)]

/-- The cells. -/
def ringCells : Finset (GSem nD τ sig) := Finset.univ.map ⟨kcell, kcell_inj⟩

/-- A duty of a device: one of its barrier's three, or that of a transfer cell. -/
abbrev tokOf (cj : Dev nD × (Fin 3 ⊕ DK)) : GSem nD τ sig × ℕ × Fin 3 :=
  match cj.2 with
  | .inl μ => (kcell (cj.1, kBar), 0, μ)
  | .inr d => (kcell (cj.1, .inr d), 0, 0)

/-- Different duties have different tokens. -/
theorem tokOf_inj : Function.Injective (tokOf : Dev nD × (Fin 3 ⊕ DK) → GSem nD τ sig × ℕ × Fin 3) := by
  rintro ⟨c, j⟩ ⟨c', j'⟩ h
  rcases j with μ | d <;> rcases j' with μ' | d' <;> (have hk := kcell_inj (congrArg Prod.fst h))
  · cases hk
    have : μ = μ' := congrArg (fun x : GSem nD τ sig × ℕ × Fin 3 => x.2.2) h
    rw [this]
  · cases hk
  · cases hk
  · cases hk; rfl
/-- The duties. -/
def ringToks : Finset (GSem nD τ sig × ℕ × Fin 3) := Finset.univ.map ⟨tokOf, tokOf_inj⟩

/-- The launch's ghost state: the pipeline's and the cells'. -/
def u₀ : UU :=
  (initOf (Pipeline.cells cfgs cellOf_inj) (Pipeline.launchToks cfgs cellOf_inj), initOf ringCells ringToks)

/-- What the launch deals a device, -/
def G (c : Dev nD) : sProp 𝕄 :=
  iprop((bigSep Finset.univ fun k : CK => roundState ER (gather X) (kcell (c, k)) 0)
    ∗ (spots c ∗ bigSep Finset.univ fun k : CK => reached ER (kcell (c, k)) 0) ∗ toks c)

/-- and what it holds of it once the invariants are shared. -/
def G' (c : Dev nD) : sProp 𝕄 := iprop(∃ K, recs X K ∗ spots c ∗ payToks c)

/-- The initial ghost state of the cells gives every cell its invariant's part and every duty its token. -/
theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (gather X) ringCells ringToks) $$ HX with ⟨Hst, Hr, Hat, Htok⟩
  imodintro
  ihave Hst' := (Entails.of_eq (hX fun g => roundState ER (gather X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G spots; simp only [bigSep_sep']
  isplitl [Hst']; · iexact Hst'
  isplitl [Hat' Hr']
  · isplitl [Hat'] <;> iassumption
  iexact Htok'

/-! ## The invariants -/

/-- The transfer semaphores are the kernel's own, scoped, distinct and not the pipeline's. -/
theorem ownSemFacts : Pipeline.OwnSemFacts cfg0.spec dsem where
  isScoped d := by
    have h : ∀ q : DmaSem sig, (SemLoc.dma q : SemLoc sig).isScoped .tc = true := by decide
    obtain ⟨q, hq, -⟩ := dsem_num d
    rw [hq]; exact h q
  inj := fun _ _ h => dsem_inj h
  disj d w s h := by
    obtain ⟨q, hq, hn⟩ := dsem_num d
    have hp := dnum_pos d
    have hw : ∀ (w : Fin cfg0.W) (s : Fin (cfg0.spec w).nbuf), ((cfg0.spec w).sem s).val = 0 := by decide
    rw [hq] at h
    cases h
    have := hw w s
    omega

/-- The only semaphore of a device that outlives the call is its barrier, and it begins at zero. -/
theorem unscopedSems0_eq (c : Dev nD) : (unscopedSems0 c : sProp 𝕄) = semVal (kcell (c, kBar)) 0 := by
  unfold unscopedSems0; rw [bigSep_eq_bigSepL_of_eq [SemLoc.reg barS] (by decide) (by decide)]; rfl

/-- All of a device's semaphores at zero. -/
theorem sems0_eq (c : Dev nD) :
    iprop(Pipeline.ownSems0 (Ix := Unit) (Name := ℕ) (U := UU) (Lvl := ℕ) (Val := Elt F) (τ := τ) dsem c ∗ unscopedSems0 c)
      ⊢ (bigSep Finset.univ fun k : CK => semVal (kcell (c, k)) 0 : sProp 𝕄) := by
  rw [unscopedSems0_eq, cells_sep]
  unfold Pipeline.ownSems0
  iintro ⟨HD, HB⟩
  isplitl [HB]; · iexact HB
  iexact HD

/-- A device's cells become invariants. -/
theorem core_alloc (c : Dev nD) :
    iprop(Pipeline.ownSems0 (Ix := Unit) (Name := ℕ) (U := UU) (Lvl := ℕ) (Val := Elt F) (τ := τ) dsem c ∗ unscopedSems0 c ∗ G X c)
      ⊢ |={Set.univ}=> iprop((bigSep Finset.univ fun k : CK => iprop(∃ κ : ℕ, cellInv ER (gather X) κ (kcell (c, k))))
          ∗ (spots c ∗ bigSep Finset.univ fun k : CK => reached ER (kcell (c, k)) 0) ∗ toks c) := by
  classical
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (gather X) (kcell (c, k)) 0)
      ⊢ (|={Set.univ}=> bigSep Finset.univ fun k : CK => iprop(∃ κ : ℕ, cellInv ER (gather X) κ (kcell (c, k))) : sProp 𝕄) from by
        rw [← bigSep_sep']
        exact (bigSep_mono fun k _ => (Rounds.body_intro ER (gather X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What all hold beside something shared, each may hold with it. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all cells are shared, and the tokens passed on. -/
theorem regroup :
    (bigSep Finset.univ fun c : Dev nD => iprop((bigSep Finset.univ fun k : CK => iprop(∃ κ : ℕ, cellInv ER (gather X) κ (kcell (c, k))))
          ∗ (spots c ∗ bigSep Finset.univ fun k : CK => reached ER (kcell (c, k)) 0) ∗ toks c) : sProp 𝕄)
      ⊢ bigSep Finset.univ (G' X) := by
  classical
  simp only [bigSep_sep']
  rw [← bigSep_univ_prod (fun ck : Dev nD × CK => iprop(∃ κ : ℕ, cellInv ER (gather X) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (gather X) κ (kcell ck) : sProp 𝕄))) $$ HI
  icases HK with ⟨%K, #HI⟩
  ihave Htk := (toks_deal (F := F)) $$ Htok
  have hG : ∀ c ∈ (Finset.univ : Finset (Dev nD)), iprop(recs X K ∗ (spots c ∗ payToks c)) ⊢ (G' X c : sProp 𝕄) := fun c _ => by
    unfold G'; iintro H; iexists K; iexact H
  iapply (share_out hG)
  isplitr
  · unfold recs; isplitl; · iexact HI
    iexact HR
  · iapply (Entails.of_eq (bigSep_sep' Finset.univ (fun c : Dev nD => (spots c : sProp 𝕄)) payToks).symm)
    isplitl [Hat]; · iexact Hat
    iexact Htk

/-- The step all devices take together at the launch. -/
theorem glob : (bigSep Finset.univ fun c => iprop(Pipeline.ownSems0 (Ix := Unit) (Name := ℕ) (U := UU) (Lvl := ℕ) (Val := Elt F) (τ := τ) dsem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end Tokens

/-! ## What the partners' steps will pay -/

section Credit
omit [FloatOps F]

/-- How many of some steps pay the cell `k` of a partner. -/
def paying (k : CK) : List Act → ℕ
  | [] => 0
  | a :: l => paying k l + (match pays a with | some p => if p.1 = k then 1 else 0 | none => 0)

/-- One step, run by every device, pays each device's cell once or not at all. -/
theorem due_sum (a : Act) (c : Dev nD) (k : CK) :
    ∑ d : Dev nD, due d a (kcell (c, k)) () = (match pays a with | some p => if p.1 = k then 1 else 0 | none => 0) * kamt k := by
  unfold due
  cases hp : pays a with
  | none => dsimp only; rw [Nat.zero_mul]; exact Finset.sum_eq_zero fun _ _ => rfl
  | some p =>
    obtain ⟨k', μ⟩ := p
    dsimp only
    by_cases hk : k' = k
    · subst hk
      rw [if_pos rfl, Nat.one_mul, Finset.sum_eq_single (partner c μ)]
      · rw [flip_flip, tallyAt_apply, if_pos ⟨rfl, rfl⟩]
      · intro d _ hd
        rw [tallyAt_apply, if_neg]
        rintro ⟨h, -⟩
        have : c = partner d μ := congrArg Prod.fst (kcell_inj h)
        exact hd (by rw [this, flip_flip])
      · exact fun h => absurd (Finset.mem_univ _) h
    · rw [if_neg hk, Nat.zero_mul]
      refine Finset.sum_eq_zero fun d _ => ?_
      rw [tallyAt_apply, if_neg]
      rintro ⟨h, -⟩
      exact hk (congrArg Prod.snd (kcell_inj h)).symm

/-- What all devices' steps pay a cell. -/
theorem debt_sum (l : List Act) (c : Dev nD) (k : CK) : ∑ d : Dev nD, debt d l (kcell (c, k)) () = paying k l * kamt k := by
  induction l with
  | nil => rw [paying, Nat.zero_mul]; exact Finset.sum_eq_zero fun _ _ => rfl
  | cons a l ih =>
    have h : ∀ d : Dev nD, debt d (a :: l) (kcell (c, k)) () = debt d l (kcell (c, k)) () + due d a (kcell (c, k)) () := fun d => by
      rw [debt, Pi.add_apply, Finsupp.add_apply]
    rw [Finset.sum_congr rfl fun d _ => h d, Finset.sum_add_distrib, ih, due_sum, paying, Nat.add_mul]

/-- The barrier is paid three times, -/
theorem paying_bar : paying kBar script = 3 := by decide +kernel
/-- every receive once. -/
theorem paying_rcv : ∀ p : Fin 3 × Fin 7, paying (.inr (dRcv p.1 p.2)) script = 1 := by decide +kernel

/-- What a device owes at the launch. -/
abbrev O₀ (c : Dev nD) : CellTallies nD τ sig Unit := debt c script

/-- What the whole launch owes to a cell is what the steps of one device's script pay to that kind of cell. -/
theorem launch_at (c : Dev nD) (k : CK) :
    tallyOn (kcell (c, k)) (launchCredit (Pipeline.owing O₀) 0 (kcell (c, k))) = (tallyAt (kcell (c, k)) () (paying k script * kamt k) : CellTallies nD τ sig Unit) := by
  unfold tallyAt; refine congrArg _ (Finsupp.ext fun u => ?_); cases u
  rw [Pipeline.launchCredit_owing, Finsupp.single_eq_same, debt_sum]

/-- The launch's credit holds what the partners' steps will pay. -/
theorem creds (c : Dev nD) : (Pipeline.launchCred O₀ c : sProp 𝕄) ⊢ coming c := by
  classical
  unfold Pipeline.launchCred
  rw [sep_part (Finset.subset_univ ((Finset.univ : Finset CK).image ksem)), bigSep_image_of_injOn fun i _ j _ e => ksem_inj e,
    bigSep_congr fun k _ => congrArg (fun T => (cred T : sProp 𝕄)) (launch_at c k), cells_sep, dk_sep]
  unfold coming
  iintro ⟨⟨HB, -, -, -, HR⟩, -⟩
  isplitl [HB]
  · rw [paying_bar]; iexact HB
  · have h : ∀ p : Fin 3 × Fin 7, paying (.inr (dRcv p.1 p.2)) script * kamt (.inr (dRcv p.1 p.2)) = NT p.1 := fun p => by
      rw [paying_rcv, Nat.one_mul]; rfl
    simp only [h]
    iexact HR

end Credit

end Cert.KernelIdeal.Gather
-- ==== Proof.Launch.lean ====
/- The run of the program: from any memory, every fair execution ends with each device's result the gathered blocks, its
   argument unchanged and every semaphore at zero. -/
module

public import proofs.«01_k».proof.Proof.Deal
public import Idealize.ShloMosaic.Lib.Pipeline.Quiescent

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The state the run starts from. -/
abbrev s₀ : MemSt nD τ sig (Elt F) := ⟨m, fun _ => 0, ρ⟩

/-- The input block of a device, as staged. -/
def Xin (c : Dev nD) : Blk F := (win0_0.blk t0_0).view.read (Elt F) (m ((c : Thread nD τ).loc main_arg0))

/-- What a device starts with. -/
def start (c : Dev nD) : sProp 𝕄 :=
  iprop(G' (Xin m) c ∗ coming c ∗ levAts L lv ∗ ∃ f, (c : Thread nD τ).loc main_v1 ↦{fullShare} f)

/-- What the body starts from. -/
def Φ₀ (c : Dev nD) : sProp 𝕄 :=
  iprop(start m c ∗ (∃ f, (c : Thread nD τ).loc cc0_scratch0 ↦{fullShare} f) ∗ ∃ f, (c : Thread nD τ).loc cc0_scratch1 ↦{fullShare} f)

/-- The body's data: it keeps the staged input, starts owing all it pays, and ends owing nothing. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xin m c
  Φ t := match t with
    | ⟨0, _⟩ => Φ₀ m c
    | ⟨_ + 1, _⟩ => done (Xin m) c
  q _ := fullShare
  owed t := match t with
    | ⟨0, _⟩ => O₀ c
    | ⟨_ + 1, _⟩ => 0

/-- The call has one window: what all windows hold is what that one holds. -/
theorem bigSep_W (Φ : Fin cfg0.W → sProp 𝕄) : bigSep Finset.univ Φ = Φ (0 : Fin 1) := bigSep_W0 Φ

/-- The window is fetched at the grid's only step. -/
theorem fetch_0 (t : Fin cfg0.N) : (cfg0.win (0 : Fin 1)).fetch t = true := by rw [fin_N0 t]; rfl

/-! ## The body -/

/-- What the pipeline hands the body, -/
def bodyPre (c : Dev nD) : sProp 𝕄 :=
  iprop(Φ₀ m c ∗ (dats m ρ 0 c).owesAt () t0_0.castSucc
    ∗ ∃ d, owns (c : Thread nD τ) (Memref.whole cc0_stg0_0) fullShare ((dats m ρ 0 c).before (0 : Fin 1) t0_0 d))
/-- and what it takes back. -/
def bodyPost (c : Dev nD) : sProp 𝕄 :=
  iprop(done (Xin m) c ∗ (dats m ρ 0 c).owesAt () t0_0.succ ∗ owns (c : Thread nD τ) (Memref.whole cc0_stg0_0) fullShare (Xin m c))

omit [FloatOps F] in
/-- The staged input, held whole. -/
theorem staged_eq_inp (X : Dev nD → Blk F) (c : Dev nD) :
    (owns (Ix := Unit) (Name := ℕ) (U := UU) (Lvl := ℕ) (c : Thread nD τ) (Memref.whole cc0_stg0_0) fullShare (X c) : sProp 𝕄)
      = iprop(∃ f : Buf (Elt F) ((c : Thread nD τ).loc cc0_stg0_0), ⌜f = X c⌝ ∗ ((c : Thread nD τ).loc cc0_stg0_0 ↦{fullShare} f)) := by
  unfold owns; simp only [Memref.view_whole, View.read_whole, View.set_whole]

/-- When the body starts, the window holds the device's block of the argument. -/
theorem before_0 (c : Dev nD) (d : S4096x1024.Idx → Elt F .bf16) : (dats m ρ 0 c).before (0 : Fin 1) t0_0 d = Xin m c := by
  unfold Dat.before; rw [if_pos (fetch_0 t0_0)]; rfl

/-- The body is sound. -/
theorem body_sound (c : Dev nD) : bodyPre m ρ c ⊢ runsWell c (body (F := F)) (fun _ => bodyPost m ρ c) := by
  rw [body_eq]
  unfold bodyPre bodyPost runsWell
  simp only [before_0, staged_eq_inp]
  unfold Φ₀ start G' Dat.owesAt Pipeline.owesWithin
  rw [show (dats m ρ 0 c).owed t0_0.castSucc = debt c script from rfl, show (dats m ρ 0 c).owed t0_0.succ = debt c [] from rfl]
  iintro ⟨⟨⟨⟨%K, #HR, Hs, Ht⟩, Hc, #HL, Hv⟩, H0, H1⟩, ⟨%W, -, HO⟩, ⟨%d, %f, %hf, Hx⟩⟩
  subst hf
  simp only [wp_deviceId]
  iapply (script_sound (Xin m) K c (fun _ => _)) $$ [Hs Ht Hc Hv H0 H1 HO Hx]
  · isplitr; · iexact HR
    isplitr; · iexact HL
    isplitr [HO]
    · isplitl [Hs]; · iexact Hs
      isplitl [Ht]; · iexact Ht
      isplitl [Hc]; · iexact Hc
      isplitl [Hx]; · unfold inpPts; iexact Hx
      isplitl [H0]; · iexact H0
      isplitl [H1]; · iexact H1
      iexact Hv
    unfold owing; iexists W; iexact HO
  unfold owing inpPts
  iintro ⟨Hx, Hd, ⟨%W', HO⟩⟩
  isplitl [Hd]; · iexact Hd
  isplitl [HO]
  · iexists W'
    isplitr; · ipureintro; exact fun _ _ => Or.inl trivial
    iexact HO
  iexists _
  isplitr; · (ipureintro; rfl)
  iexact Hx

set_option maxRecDepth 8000 in
/-- The pipeline's obligation on the body. -/
theorem body_obligation (c : Dev nD) : BodyObligation (dats (F := F) m ρ 0 c) (defs₀ (F := F)) 𝒱₀ () Set.univ := fun t => by
  rw [fin_N0 t]
  rw [bigSep_W, bigSep_W]
  exact body_sound m ρ c

/-! ## The launch's conditions -/

/-- The whole share of every window's array is lent. -/
theorem share_eq (c : Dev nD) (w : Fin cfg0.W) : (dats m ρ 0 c).share w = fullShare := by unfold Dat.share; split <;> rfl

/-- What a device keeps from the launch. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xin m) c)
      ⊢ |={Set.univ}=> iprop(start m c ∗ emp) := by
  rw [Pipeline.unscopedRestP_none, unscopedRest0_eq]
  iintro ⟨Hv, Hlev, Hcr, -, HG⟩
  ihave Hc := (creds (F := F) c) $$ Hcr
  imodintro
  unfold start
  isplitl
  · isplitl [HG]; · iexact HG
    isplitl [Hc]; · iexact Hc
    isplitl [Hlev]; · iexact Hlev
    iexists _; iexact Hv
  · iempintro

/-- What a device is dealt at the start is what the body asks for. -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0]; · iexact H0
  iexact H1

/-- What a device keeps at the end: the barrier at zero and the result. -/
def kept (c : Dev nD) : sProp 𝕄 := iprop(unscopedSems0 c ∗ ((c : Thread nD τ).loc main_v1 ↦{fullShare} Go (Xin m) c))

/-- What the body leaves gives the result, the semaphores at zero, and the scratch. -/
theorem leave (c : Dev nD) :
    (dats m ρ 0 c).Φ (Fin.last cfg0.N) ⊢ iprop(kept m c ∗ Pipeline.ownSems0 dsem c ∗ Pipeline.scopedRest cfg0.spec c) := by
  rw [show (dats m ρ 0 c).Φ (Fin.last cfg0.N) = done (Xin m) c from rfl, scopedRest0_eq]
  unfold done kept Pipeline.ownSems0
  rw [unscopedSems0_eq]
  iintro ⟨H0, H1, Hv, Hd, Hb⟩
  isplitl [Hb Hv]
  · isplitl [Hb]; · iexact Hb
    iexact Hv
  isplitl [Hd]; · iexact Hd
  isplitl [H0]; · iexact H0
  iexact H1

omit [FloatOps F] in
/-- The pipeline's own semaphore is the lowest. -/
theorem lv_stage (c : Dev nD) (w : Fin cfg0.W) (s : Fin (cfg0.win w).nbuf) : lv ((c : Thread nD τ), .dma ((cfg0.win w).sem s)) () ≤ 0 := by
  have h : ¬ ∃ k, ksem k = SemLoc.dma ((cfg0.win w).sem s) := by
    rintro ⟨k, hk⟩
    rcases k with _ | d
    · cases hk
    · exact ownSemFacts.disj d w s hk
  unfold lv kindOf
  dsimp only
  rw [dif_neg h]

/-- The window's own waits are allowed at the levels of the cells. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait (F := F) c _ 0 (lv_stage c w s) script (by decide +kernel)
    · show (levAts L lv : sProp 𝕄) ⊢ MayWait (c : Thread nD τ) _ () (debt c [])
      exact mayWait (F := F) c _ 0 (lv_stage c w s) [] rfl

/-! ## The run -/

/-- What a final state is: arguments as the pipeline leaves them, each result the gathered blocks. -/
def Final (r : PUnit × MemSt nD τ sig (Elt F)) : Prop :=
  ∀ c : Dev nD, r.2.mem ((c : Thread nD τ).loc main_arg0) = m ((c : Thread nD τ).loc main_arg0)
    ∧ r.2.mem ((c : Thread nD τ).loc main_v1) = Go (Xin m) c

/-- At the end the barrier reads zero and the result is the gathered blocks. -/
theorem kept_read (c : Dev nD) (s' : Phys nD τ sig (Elt F)) :
    iprop(kept m c ∗ emp ∗ SI s') ⊢ |={Set.univ}=> (iprop(⌜(∀ sm : SemLoc sig, sm.isScoped .tc = false → s'.mem.sem ((c.tc : Thread nD τ), sm) = 0)
        ∧ s'.mem.mem ((c : Thread nD τ).loc main_v1) = Go (Xin m) c⌝ ∗ SI s') : sProp 𝕄) := by
  unfold kept
  iintro ⟨⟨Hu, Hv⟩, -, HSI⟩
  ihave H := (pointsTo_read_all ({()} : Finset Unit) (fun _ => (c : Thread nD τ).loc main_v1) (fun _ => Go (Xin m) c) s' (q := fullShare)) $$ [Hv HSI]
  · rw [bigSep_singleton]
    isplitl [Hv] <;> iassumption
  icases H with ⟨%hv, HSI⟩
  ihave %hs := (tcUnscoped_read c s') $$ [Hu HSI]
  · isplitl [Hu] <;> iassumption
  imodintro
  isplitr
  · ipureintro; exact ⟨hs, hv () (Finset.mem_singleton_self _)⟩
  iexact HSI

set_option maxRecDepth 8000 in
/-- At the compiled mesh of eight devices, for any float values, from any memory with zero counters: every weakly fair
    execution of the program terminates, each device's argument unchanged, each result the gathered blocks, every semaphore at
    zero. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Xin m)) (G' := G' (Xin m)) (u₀ := u₀)
    (hu₀ := by
      unfold u₀
      iintro Hu
      ihave H := (ownU_pair _ _) $$ Hu
      icases H with ⟨HP, HX⟩
      imod (fund_ring (Xin m)) $$ HX with HG
      imodintro
      isplitl [HP] <;> iassumption)
    (hglob := glob (Xin m))
    (hA := fun _ _ => rfl) (hpf := fun _ k => k.elim0)
    (X := start m) (Y := kept m) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_v1) = Go (Xin m) c)
    (hY := kept_read m)
    (hQ := fun _ h hs => ⟨fun c => ⟨((h c).1 (0 : Fin 1)).trans ((dats (F := F) m ρ 0 c).arrAt_in (0 : Fin 1) rfl _), (h c).2.2.2⟩,
      sem_eq_zero hs fun c => (h c).2.2.1⟩)

end Cert.KernelIdeal.Gather
-- ==== Proof.Value.lean ====
/- The value of the gathered blocks: where each device's argument is its block of one array, the gathered blocks are that
   array. -/
module

public import proofs.«01_k».proof.Proof.Launch
public import Idealize.ShloMosaic.Lib.Layout

@[expose] public section

noncomputable section

namespace Cert.KernelIdeal.Gather

open Cert.KernelIdeal Cert.KernelIdeal.Gen
open Idealize.ShloMosaic
open Idealize.ShloMosaic.TcCoe

variable {F : FTy → Type} [FloatOps F]

/-- The staged input is the argument. -/
theorem Xin_eq (m : (ℓ : Loc nD τ sig) → Buf (Elt F) ℓ) (c : Dev nD) : Xin m c = m ((c : Thread nD τ).loc main_arg0) := by
  have hz : (fun a => win0_0.index t0_0 a * main_arg0.ty.shape.size a) = fun _ => 0 := funext fun a => by fin_cases a <;> decide
  exact Memref.read_access_unit_zero (Elt F) main_arg0 hz (fun a => by fin_cases a <;> decide) _

omit [FloatOps F] in
/-- The gathered blocks of an array are the array. -/
theorem gathered (X : Dev nD → Blk F) (v : Vec F S32768x1024 .bf16)
    (h : ∀ c : Dev nD, X c = Layout.block ⟨2, ![4096, 1024]⟩ ⟨2, ![32768, 1024]⟩ 0 8 c v) : Gd X = v := by
  funext x
  have hx : (x 0 : ℕ) < 32768 := (x 0).isLt
  let o : Dev nD := ⟨(x 0 : ℕ) / 4096, show (x 0 : ℕ) / 4096 < 8 by omega⟩
  have hr : (x 0 : ℕ) % 4096 < 4096 := Nat.mod_lt _ (by decide)
  let i : S4096x1024.Idx := fun a => match a with
    | ⟨0, _⟩ => ⟨(x 0 : ℕ) % 4096, hr⟩
    | ⟨1, _⟩ => x 1
  have h0 : (x 0 : ℕ) = 4096 * o.val + (x 0 : ℕ) % 4096 := (Nat.div_add_mod _ _).symm
  rw [Gd_apply X x o hr h0 rfl, ← at2_self (X o) i rfl rfl, h o]
  refine congrArg v (funext fun a => Fin.ext ?_)
  match a with
  | ⟨0, _⟩ =>
    show o.val * 4096 + (x 0 : ℕ) % 4096 = (x 0 : ℕ)
    omega
  | ⟨1, _⟩ => rfl

end Cert.KernelIdeal.Gather
-- ==== Proof.lean ====
/- The claims: the kernel and its idealization run, end with their arguments unchanged and every semaphore at zero, and the
   idealization's result on every device is the whole array whose blocks the devices were given. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import Idealize.ShloMosaic.Lib.StableHlo.Run

@[expose] public section

noncomputable section

namespace Cert.Proof

open Idealize.ShloMosaic Idealize.SL.Sem

/-- The idealization's frame. -/
theorem frame_ideal : Cert.quiescent_KernelIdeal := fun m ρ _ =>
  (θ_run Cert.KernelIdeal.defs _ _).mono (fun _ h => ⟨fun c => (h.1 c).1, h.2⟩) (Cert.KernelIdeal.Gather.run_main (F := Ideal) m ρ)

/-- The two programs call the same bodies: theirs -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
/-- and the pipelines'. -/
theorem defs_eq : Cert.Kernel.defs (F := Bits) = Cert.KernelIdeal.defs (F := Bits) := by
  unfold Cert.Kernel.defs Cert.KernelIdeal.defs
  rw [bodies_eq]
  rfl

/-- The kernel's frame: its text is the idealization's, so it is the same run, read at the machine's floats. -/
theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
    (θ_run Cert.KernelIdeal.defs _ _).mono (fun _ h => ⟨fun c => (h.1 c).1, h.2⟩) (Cert.KernelIdeal.Gather.run_main (F := Bits) m ρ)
  rw [defs_eq]
  exact h

section Reference

open Cert.ReferenceIdeal

/-- The reference returns its argument: it runs no operation, and its buffers keep what they held. -/
theorem run_reference (m : (ℓ : Loc nD τ sig) → Buf (Elt Ideal) ℓ) (ρ : Dev nD → PrngReg) :
    θ_run defs (onTc (τ := τ) (main (F := Ideal))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (StableHlo.run_seq (by decide) (by decide) defs main (fun _ => []) (fun _ => rfl) (fun _ => trivial) m ρ)

/-- The reference's frame. -/
theorem frame_reference : Cert.quiescent_ReferenceIdeal := fun m ρ _ =>
  (θ_run defs _ _).mono (fun r h => ⟨h, sem_eq_zero_of_no_sems (by decide) r.2⟩) (run_reference m ρ)

end Reference

/-- Every device ends with the reference's whole array. -/
theorem gather_algebraic : Cert.algebraic_KernelIdeal_ReferenceIdeal := fun m ρ m' ρ' _ hin => by
  refine ⟨m' (((0 : Dev Cert.ReferenceIdeal.nD).tc : Thread Cert.ReferenceIdeal.nD Cert.ReferenceIdeal.τ).loc Cert.ReferenceIdeal.main_arg0), ?_, ?_⟩
  · refine (θ_run Cert.KernelIdeal.defs _ _).mono (fun _ h c => ⟨(h.1 c).2.trans ?_, (h.1 c).1⟩) (Cert.KernelIdeal.Gather.run_main (F := Ideal) m ρ)
    exact Cert.KernelIdeal.Gather.gathered (F := Ideal) _ _ fun d => (Cert.KernelIdeal.Gather.Xin_eq m d).trans (hin d)
  · exact (θ_run Cert.ReferenceIdeal.defs _ _).mono (fun _ h => ⟨h 0, h 0⟩) (run_reference m' ρ')

/-- All the claims. -/
theorem claim : Cert.Claim :=
  ⟨Cert.Kernel.Gen.facts, Cert.KernelIdeal.Gen.facts, Cert.ReferenceIdeal.Gen.facts, frame_kernel, frame_ideal, frame_reference, trivial, gather_algebraic⟩

end Cert.Proof

end
